-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![4096, 4096]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 2048]⟩ ⟨2, ![4096, 2048]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S4096x2048 : Shape := ⟨2, ![4096, 2048]⟩
abbrev S1024x2048 : Shape := ⟨2, ![1024, 2048]⟩
abbrev S4x1024x1024 : Shape := ⟨3, ![4, 1024, 1024]⟩
abbrev S2x256x1024 : Shape := ⟨3, ![2, 256, 1024]⟩
abbrev S3x1024x1024 : Shape := ⟨3, ![3, 1024, 1024]⟩
abbrev S2x512x2048 : Shape := ⟨3, ![2, 512, 2048]⟩
abbrev S4x1x128 : Shape := ⟨3, ![4, 1, 128]⟩
abbrev S3x4 : Shape := ⟨2, ![3, 4]⟩
abbrev S4 : Shape := ⟨1, ![4]⟩
abbrev S2 : Shape := ⟨1, ![2]⟩
abbrev S_ : Shape := ⟨0, ![]⟩
abbrev S1 : Shape := ⟨1, ![1]⟩
abbrev S1x256x1024 : Shape := ⟨3, ![1, 256, 1024]⟩
abbrev S256x1024 : Shape := ⟨2, ![256, 1024]⟩
abbrev S1x1 : Shape := ⟨2, ![1, 1]⟩
abbrev S1x512x2048 : Shape := ⟨3, ![1, 512, 2048]⟩
abbrev S512x2048 : Shape := ⟨2, ![512, 2048]⟩
abbrev S256x2048 : Shape := ⟨2, ![256, 2048]⟩
abbrev S1x256x2048 : Shape := ⟨3, ![1, 256, 2048]⟩
abbrev S1x1x1 : Shape := ⟨3, ![1, 1, 1]⟩
abbrev S1x128 : Shape := ⟨2, ![1, 128]⟩
abbrev S1x1x128 : Shape := ⟨3, ![1, 1, 128]⟩
abbrev S1x4x1x128 : Shape := ⟨4, ![1, 4, 1, 128]⟩
abbrev S1x1x1x1 : Shape := ⟨4, ![1, 1, 1, 1]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S1024x2048, .f32⟩
  | .local _ .vmem, ⟨0, _⟩ => ⟨S1024x2048, .f32⟩
  | .local _ .vmem, ⟨1, _⟩ => ⟨S4x1024x1024, .bf16⟩
  | .local _ .vmem, ⟨2, _⟩ => ⟨S2x256x1024, .f32⟩
  | .local _ .vmem, ⟨3, _⟩ => ⟨S3x1024x1024, .bf16⟩
  | .local _ .vmem, ⟨4, _⟩ => ⟨S2x512x2048, .f32⟩
  | .local _ .vmem, ⟨5, _⟩ => ⟨S4096x2048, .bf16⟩
  | .local _ .vmem, ⟨6, _⟩ => ⟨S4x1x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  (ofTc nBuf bufTy 1 37 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_scratch5 : Ref sig .tc := ⟨.vmem, 6, rfl⟩
abbrev cc0_sem0_0 : DmaSem sig := 0
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let c0_i32 : BitVec 32 := 0#32
  let v5 : BitVec 1 := Scalar.cmpi .eq c4_i32_1 c0_i32
  let c1_i32_2 : BitVec 32 := 1#32
  let v6 : BitVec 32 := Scalar.select v5 c1_i32_2 c4_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v17 : BitVec 32 := Scalar.addi v2 c2_i32
  let c4_i32_9 : BitVec 32 := 4#32
  let c0_i32_10 : BitVec 32 := 0#32
  let v18 : BitVec 1 := Scalar.cmpi .eq c4_i32_9 c0_i32_10
  let c1_i32_11 : BitVec 32 := 1#32
  let v19 : BitVec 32 := Scalar.select v18 c1_i32_11 c4_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v30 : BitVec 32 := Scalar.addi v2 c3_i32
  let c4_i32_18 : BitVec 32 := 4#32
  let c0_i32_19 : BitVec 32 := 0#32
  let v31 : BitVec 1 := Scalar.cmpi .eq c4_i32_18 c0_i32_19
  let c1_i32_20 : BitVec 32 := 1#32
  let v32 : BitVec 32 := Scalar.select v31 c1_i32_20 c4_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_off1 (d0 : Dev nD) (c1_i32_28 : BitVec 32) (c0_i32_35 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v43 : BitVec 32 := Scalar.addi v2 c1_i32_28
  let c4_i32_29 : BitVec 32 := 4#32
  let c0_i32_30 : BitVec 32 := 0#32
  let v44 : BitVec 1 := Scalar.cmpi .eq c4_i32_29 c0_i32_30
  let c1_i32_31 : BitVec 32 := 1#32
  let v45 : BitVec 32 := Scalar.select v44 c1_i32_31 c4_i32_29
  let v46 : BitVec 32 := Scalar.remsi v43 v45
  let c0_i32_33 : BitVec 32 := 0#32
  let v48 : BitVec 1 := Scalar.cmpi .slt v46 c0_i32_33
  let c0_i32_34 : BitVec 32 := 0#32
  let v49 : BitVec 1 := Scalar.cmpi .slt v45 c0_i32_34
  let v50 : BitVec 1 := Scalar.xori v48 v49
  let c0_i32_32 : BitVec 32 := 0#32
  let v47 : BitVec 1 := Scalar.cmpi .ne v46 c0_i32_32
  let v51 : BitVec 1 := Scalar.andi v50 v47
  let v52 : BitVec 32 := Scalar.addi v46 v45
  let v53 : BitVec 32 := Scalar.select v51 v52 v46
  let c1024_i32 : BitVec 32 := 1024#32
  let v54 : BitVec 32 := Scalar.muli v53 c1024_i32
  let v55 : BitVec 32 := Scalar.addi v54 c0_i32_35
  let c0_i32_40 : BitVec 32 := 0#32
  ![v55.toNat, 0]
def k0_dev4 (d0 : Dev nD) : Nat :=
  let c0_i32_101 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_87 : BitVec 32 := 1#32
  let v121 : BitVec 32 := Scalar.addi v2 c1_i32_87
  let c4_i32_88 : BitVec 32 := 4#32
  let c0_i32_89 : BitVec 32 := 0#32
  let v122 : BitVec 1 := Scalar.cmpi .eq c4_i32_88 c0_i32_89
  let c1_i32_90 : BitVec 32 := 1#32
  let v123 : BitVec 32 := Scalar.select v122 c1_i32_90 c4_i32_88
  let v124 : BitVec 32 := Scalar.remsi v121 v123
  let c0_i32_92 : BitVec 32 := 0#32
  let v126 : BitVec 1 := Scalar.cmpi .slt v124 c0_i32_92
  let c0_i32_93 : BitVec 32 := 0#32
  let v127 : BitVec 1 := Scalar.cmpi .slt v123 c0_i32_93
  let v128 : BitVec 1 := Scalar.xori v126 v127
  let c0_i32_91 : BitVec 32 := 0#32
  let v125 : BitVec 1 := Scalar.cmpi .ne v124 c0_i32_91
  let v129 : BitVec 1 := Scalar.andi v128 v125
  let v130 : BitVec 32 := Scalar.addi v124 v123
  let v131 : BitVec 32 := Scalar.select v129 v130 v124
  let c1_i32_100 : BitVec 32 := 1#32
  let v132 : BitVec 32 := Scalar.muli v131 c1_i32_100
  let v133 : BitVec 32 := Scalar.addi c0_i32_101 v132
  v133.toNat
def k0_dev5 (d0 : Dev nD) : Nat :=
  let c0_i32_153 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_139 : BitVec 32 := 2#32
  let v184 : BitVec 32 := Scalar.addi v2 c2_i32_139
  let c4_i32_140 : BitVec 32 := 4#32
  let c0_i32_141 : BitVec 32 := 0#32
  let v185 : BitVec 1 := Scalar.cmpi .eq c4_i32_140 c0_i32_141
  let c1_i32_142 : BitVec 32 := 1#32
  let v186 : BitVec 32 := Scalar.select v185 c1_i32_142 c4_i32_140
  let v187 : BitVec 32 := Scalar.remsi v184 v186
  let c0_i32_144 : BitVec 32 := 0#32
  let v189 : BitVec 1 := Scalar.cmpi .slt v187 c0_i32_144
  let c0_i32_145 : BitVec 32 := 0#32
  let v190 : BitVec 1 := Scalar.cmpi .slt v186 c0_i32_145
  let v191 : BitVec 1 := Scalar.xori v189 v190
  let c0_i32_143 : BitVec 32 := 0#32
  let v188 : BitVec 1 := Scalar.cmpi .ne v187 c0_i32_143
  let v192 : BitVec 1 := Scalar.andi v191 v188
  let v193 : BitVec 32 := Scalar.addi v187 v186
  let v194 : BitVec 32 := Scalar.select v192 v193 v187
  let c1_i32_152 : BitVec 32 := 1#32
  let v195 : BitVec 32 := Scalar.muli v194 c1_i32_152
  let v196 : BitVec 32 := Scalar.addi c0_i32_153 v195
  v196.toNat
def k0_dev6 (d0 : Dev nD) : Nat :=
  let c0_i32_204 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_190 : BitVec 32 := 3#32
  let v247 : BitVec 32 := Scalar.addi v2 c3_i32_190
  let c4_i32_191 : BitVec 32 := 4#32
  let c0_i32_192 : BitVec 32 := 0#32
  let v248 : BitVec 1 := Scalar.cmpi .eq c4_i32_191 c0_i32_192
  let c1_i32_193 : BitVec 32 := 1#32
  let v249 : BitVec 32 := Scalar.select v248 c1_i32_193 c4_i32_191
  let v250 : BitVec 32 := Scalar.remsi v247 v249
  let c0_i32_195 : BitVec 32 := 0#32
  let v252 : BitVec 1 := Scalar.cmpi .slt v250 c0_i32_195
  let c0_i32_196 : BitVec 32 := 0#32
  let v253 : BitVec 1 := Scalar.cmpi .slt v249 c0_i32_196
  let v254 : BitVec 1 := Scalar.xori v252 v253
  let c0_i32_194 : BitVec 32 := 0#32
  let v251 : BitVec 1 := Scalar.cmpi .ne v250 c0_i32_194
  let v255 : BitVec 1 := Scalar.andi v254 v251
  let v256 : BitVec 32 := Scalar.addi v250 v249
  let v257 : BitVec 32 := Scalar.select v255 v256 v250
  let c1_i32_203 : BitVec 32 := 1#32
  let v258 : BitVec 32 := Scalar.muli v257 c1_i32_203
  let v259 : BitVec 32 := Scalar.addi c0_i32_204 v258
  v259.toNat
def k0_dev7 (d0 : Dev nD) : Nat :=
  let c0_i32_388 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_374 : BitVec 32 := 1#32
  let v478 : BitVec 32 := Scalar.addi v2 c1_i32_374
  let c4_i32_375 : BitVec 32 := 4#32
  let c0_i32_376 : BitVec 32 := 0#32
  let v479 : BitVec 1 := Scalar.cmpi .eq c4_i32_375 c0_i32_376
  let c1_i32_377 : BitVec 32 := 1#32
  let v480 : BitVec 32 := Scalar.select v479 c1_i32_377 c4_i32_375
  let v481 : BitVec 32 := Scalar.remsi v478 v480
  let c0_i32_379 : BitVec 32 := 0#32
  let v483 : BitVec 1 := Scalar.cmpi .slt v481 c0_i32_379
  let c0_i32_380 : BitVec 32 := 0#32
  let v484 : BitVec 1 := Scalar.cmpi .slt v480 c0_i32_380
  let v485 : BitVec 1 := Scalar.xori v483 v484
  let c0_i32_378 : BitVec 32 := 0#32
  let v482 : BitVec 1 := Scalar.cmpi .ne v481 c0_i32_378
  let v486 : BitVec 1 := Scalar.andi v485 v482
  let v487 : BitVec 32 := Scalar.addi v481 v480
  let v488 : BitVec 32 := Scalar.select v486 v487 v481
  let c1_i32_387 : BitVec 32 := 1#32
  let v489 : BitVec 32 := Scalar.muli v488 c1_i32_387
  let v490 : BitVec 32 := Scalar.addi c0_i32_388 v489
  v490.toNat
def k0_dev8 (d0 : Dev nD) : Nat :=
  let c0_i32_441 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_427 : BitVec 32 := 2#32
  let v541 : BitVec 32 := Scalar.addi v2 c2_i32_427
  let c4_i32_428 : BitVec 32 := 4#32
  let c0_i32_429 : BitVec 32 := 0#32
  let v542 : BitVec 1 := Scalar.cmpi .eq c4_i32_428 c0_i32_429
  let c1_i32_430 : BitVec 32 := 1#32
  let v543 : BitVec 32 := Scalar.select v542 c1_i32_430 c4_i32_428
  let v544 : BitVec 32 := Scalar.remsi v541 v543
  let c0_i32_432 : BitVec 32 := 0#32
  let v546 : BitVec 1 := Scalar.cmpi .slt v544 c0_i32_432
  let c0_i32_433 : BitVec 32 := 0#32
  let v547 : BitVec 1 := Scalar.cmpi .slt v543 c0_i32_433
  let v548 : BitVec 1 := Scalar.xori v546 v547
  let c0_i32_431 : BitVec 32 := 0#32
  let v545 : BitVec 1 := Scalar.cmpi .ne v544 c0_i32_431
  let v549 : BitVec 1 := Scalar.andi v548 v545
  let v550 : BitVec 32 := Scalar.addi v544 v543
  let v551 : BitVec 32 := Scalar.select v549 v550 v544
  let c1_i32_440 : BitVec 32 := 1#32
  let v552 : BitVec 32 := Scalar.muli v551 c1_i32_440
  let v553 : BitVec 32 := Scalar.addi c0_i32_441 v552
  v553.toNat
def k0_dev9 (d0 : Dev nD) : Nat :=
  let c0_i32_494 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_480 : BitVec 32 := 3#32
  let v604 : BitVec 32 := Scalar.addi v2 c3_i32_480
  let c4_i32_481 : BitVec 32 := 4#32
  let c0_i32_482 : BitVec 32 := 0#32
  let v605 : BitVec 1 := Scalar.cmpi .eq c4_i32_481 c0_i32_482
  let c1_i32_483 : BitVec 32 := 1#32
  let v606 : BitVec 32 := Scalar.select v605 c1_i32_483 c4_i32_481
  let v607 : BitVec 32 := Scalar.remsi v604 v606
  let c0_i32_485 : BitVec 32 := 0#32
  let v609 : BitVec 1 := Scalar.cmpi .slt v607 c0_i32_485
  let c0_i32_486 : BitVec 32 := 0#32
  let v610 : BitVec 1 := Scalar.cmpi .slt v606 c0_i32_486
  let v611 : BitVec 1 := Scalar.xori v609 v610
  let c0_i32_484 : BitVec 32 := 0#32
  let v608 : BitVec 1 := Scalar.cmpi .ne v607 c0_i32_484
  let v612 : BitVec 1 := Scalar.andi v611 v608
  let v613 : BitVec 32 := Scalar.addi v607 v606
  let v614 : BitVec 32 := Scalar.select v612 v613 v607
  let c1_i32_493 : BitVec 32 := 1#32
  let v615 : BitVec 32 := Scalar.muli v614 c1_i32_493
  let v616 : BitVec 32 := Scalar.addi c0_i32_494 v615
  v616.toNat
def k0_dev10 (d0 : Dev nD) : Nat :=
  let c0_i32_547 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_533 : BitVec 32 := 1#32
  let v667 : BitVec 32 := Scalar.addi v2 c1_i32_533
  let c4_i32_534 : BitVec 32 := 4#32
  let c0_i32_535 : BitVec 32 := 0#32
  let v668 : BitVec 1 := Scalar.cmpi .eq c4_i32_534 c0_i32_535
  let c1_i32_536 : BitVec 32 := 1#32
  let v669 : BitVec 32 := Scalar.select v668 c1_i32_536 c4_i32_534
  let v670 : BitVec 32 := Scalar.remsi v667 v669
  let c0_i32_538 : BitVec 32 := 0#32
  let v672 : BitVec 1 := Scalar.cmpi .slt v670 c0_i32_538
  let c0_i32_539 : BitVec 32 := 0#32
  let v673 : BitVec 1 := Scalar.cmpi .slt v669 c0_i32_539
  let v674 : BitVec 1 := Scalar.xori v672 v673
  let c0_i32_537 : BitVec 32 := 0#32
  let v671 : BitVec 1 := Scalar.cmpi .ne v670 c0_i32_537
  let v675 : BitVec 1 := Scalar.andi v674 v671
  let v676 : BitVec 32 := Scalar.addi v670 v669
  let v677 : BitVec 32 := Scalar.select v675 v676 v670
  let c1_i32_546 : BitVec 32 := 1#32
  let v678 : BitVec 32 := Scalar.muli v677 c1_i32_546
  let v679 : BitVec 32 := Scalar.addi c0_i32_547 v678
  v679.toNat
def k0_dev11 (d0 : Dev nD) : Nat :=
  let c0_i32_600 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_586 : BitVec 32 := 2#32
  let v730 : BitVec 32 := Scalar.addi v2 c2_i32_586
  let c4_i32_587 : BitVec 32 := 4#32
  let c0_i32_588 : BitVec 32 := 0#32
  let v731 : BitVec 1 := Scalar.cmpi .eq c4_i32_587 c0_i32_588
  let c1_i32_589 : BitVec 32 := 1#32
  let v732 : BitVec 32 := Scalar.select v731 c1_i32_589 c4_i32_587
  let v733 : BitVec 32 := Scalar.remsi v730 v732
  let c0_i32_591 : BitVec 32 := 0#32
  let v735 : BitVec 1 := Scalar.cmpi .slt v733 c0_i32_591
  let c0_i32_592 : BitVec 32 := 0#32
  let v736 : BitVec 1 := Scalar.cmpi .slt v732 c0_i32_592
  let v737 : BitVec 1 := Scalar.xori v735 v736
  let c0_i32_590 : BitVec 32 := 0#32
  let v734 : BitVec 1 := Scalar.cmpi .ne v733 c0_i32_590
  let v738 : BitVec 1 := Scalar.andi v737 v734
  let v739 : BitVec 32 := Scalar.addi v733 v732
  let v740 : BitVec 32 := Scalar.select v738 v739 v733
  let c1_i32_599 : BitVec 32 := 1#32
  let v741 : BitVec 32 := Scalar.muli v740 c1_i32_599
  let v742 : BitVec 32 := Scalar.addi c0_i32_600 v741
  v742.toNat
def k0_dev12 (d0 : Dev nD) : Nat :=
  let c0_i32_653 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_639 : BitVec 32 := 3#32
  let v793 : BitVec 32 := Scalar.addi v2 c3_i32_639
  let c4_i32_640 : BitVec 32 := 4#32
  let c0_i32_641 : BitVec 32 := 0#32
  let v794 : BitVec 1 := Scalar.cmpi .eq c4_i32_640 c0_i32_641
  let c1_i32_642 : BitVec 32 := 1#32
  let v795 : BitVec 32 := Scalar.select v794 c1_i32_642 c4_i32_640
  let v796 : BitVec 32 := Scalar.remsi v793 v795
  let c0_i32_644 : BitVec 32 := 0#32
  let v798 : BitVec 1 := Scalar.cmpi .slt v796 c0_i32_644
  let c0_i32_645 : BitVec 32 := 0#32
  let v799 : BitVec 1 := Scalar.cmpi .slt v795 c0_i32_645
  let v800 : BitVec 1 := Scalar.xori v798 v799
  let c0_i32_643 : BitVec 32 := 0#32
  let v797 : BitVec 1 := Scalar.cmpi .ne v796 c0_i32_643
  let v801 : BitVec 1 := Scalar.andi v800 v797
  let v802 : BitVec 32 := Scalar.addi v796 v795
  let v803 : BitVec 32 := Scalar.select v801 v802 v796
  let c1_i32_652 : BitVec 32 := 1#32
  let v804 : BitVec 32 := Scalar.muli v803 c1_i32_652
  let v805 : BitVec 32 := Scalar.addi c0_i32_653 v804
  v805.toNat
def k0_dev13 (d0 : Dev nD) : Nat :=
  let c0_i32_706 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_692 : BitVec 32 := 1#32
  let v856 : BitVec 32 := Scalar.addi v2 c1_i32_692
  let c4_i32_693 : BitVec 32 := 4#32
  let c0_i32_694 : BitVec 32 := 0#32
  let v857 : BitVec 1 := Scalar.cmpi .eq c4_i32_693 c0_i32_694
  let c1_i32_695 : BitVec 32 := 1#32
  let v858 : BitVec 32 := Scalar.select v857 c1_i32_695 c4_i32_693
  let v859 : BitVec 32 := Scalar.remsi v856 v858
  let c0_i32_697 : BitVec 32 := 0#32
  let v861 : BitVec 1 := Scalar.cmpi .slt v859 c0_i32_697
  let c0_i32_698 : BitVec 32 := 0#32
  let v862 : BitVec 1 := Scalar.cmpi .slt v858 c0_i32_698
  let v863 : BitVec 1 := Scalar.xori v861 v862
  let c0_i32_696 : BitVec 32 := 0#32
  let v860 : BitVec 1 := Scalar.cmpi .ne v859 c0_i32_696
  let v864 : BitVec 1 := Scalar.andi v863 v860
  let v865 : BitVec 32 := Scalar.addi v859 v858
  let v866 : BitVec 32 := Scalar.select v864 v865 v859
  let c1_i32_705 : BitVec 32 := 1#32
  let v867 : BitVec 32 := Scalar.muli v866 c1_i32_705
  let v868 : BitVec 32 := Scalar.addi c0_i32_706 v867
  v868.toNat
def k0_dev14 (d0 : Dev nD) : Nat :=
  let c0_i32_745 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_731 : BitVec 32 := 2#32
  let v901 : BitVec 32 := Scalar.addi v2 c2_i32_731
  let c4_i32_732 : BitVec 32 := 4#32
  let c0_i32_733 : BitVec 32 := 0#32
  let v902 : BitVec 1 := Scalar.cmpi .eq c4_i32_732 c0_i32_733
  let c1_i32_734 : BitVec 32 := 1#32
  let v903 : BitVec 32 := Scalar.select v902 c1_i32_734 c4_i32_732
  let v904 : BitVec 32 := Scalar.remsi v901 v903
  let c0_i32_736 : BitVec 32 := 0#32
  let v906 : BitVec 1 := Scalar.cmpi .slt v904 c0_i32_736
  let c0_i32_737 : BitVec 32 := 0#32
  let v907 : BitVec 1 := Scalar.cmpi .slt v903 c0_i32_737
  let v908 : BitVec 1 := Scalar.xori v906 v907
  let c0_i32_735 : BitVec 32 := 0#32
  let v905 : BitVec 1 := Scalar.cmpi .ne v904 c0_i32_735
  let v909 : BitVec 1 := Scalar.andi v908 v905
  let v910 : BitVec 32 := Scalar.addi v904 v903
  let v911 : BitVec 32 := Scalar.select v909 v910 v904
  let c1_i32_744 : BitVec 32 := 1#32
  let v912 : BitVec 32 := Scalar.muli v911 c1_i32_744
  let v913 : BitVec 32 := Scalar.addi c0_i32_745 v912
  v913.toNat
def k0_dev15 (d0 : Dev nD) : Nat :=
  let c0_i32_784 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_770 : BitVec 32 := 3#32
  let v946 : BitVec 32 := Scalar.addi v2 c3_i32_770
  let c4_i32_771 : BitVec 32 := 4#32
  let c0_i32_772 : BitVec 32 := 0#32
  let v947 : BitVec 1 := Scalar.cmpi .eq c4_i32_771 c0_i32_772
  let c1_i32_773 : BitVec 32 := 1#32
  let v948 : BitVec 32 := Scalar.select v947 c1_i32_773 c4_i32_771
  let v949 : BitVec 32 := Scalar.remsi v946 v948
  let c0_i32_775 : BitVec 32 := 0#32
  let v951 : BitVec 1 := Scalar.cmpi .slt v949 c0_i32_775
  let c0_i32_776 : BitVec 32 := 0#32
  let v952 : BitVec 1 := Scalar.cmpi .slt v948 c0_i32_776
  let v953 : BitVec 1 := Scalar.xori v951 v952
  let c0_i32_774 : BitVec 32 := 0#32
  let v950 : BitVec 1 := Scalar.cmpi .ne v949 c0_i32_774
  let v954 : BitVec 1 := Scalar.andi v953 v950
  let v955 : BitVec 32 := Scalar.addi v949 v948
  let v956 : BitVec 32 := Scalar.select v954 v955 v949
  let c1_i32_783 : BitVec 32 := 1#32
  let v957 : BitVec 32 := Scalar.muli v956 c1_i32_783
  let v958 : BitVec 32 := Scalar.addi c0_i32_784 v957
  v958.toNat
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_917 : BitVec 32 := 4#32
  let c0_i32_918 : BitVec 32 := 0#32
  let v1097 : BitVec 1 := Scalar.cmpi .eq c4_i32_917 c0_i32_918
  let c1_i32_919 : BitVec 32 := 1#32
  let v1098 : BitVec 32 := Scalar.select v1097 c1_i32_919 c4_i32_917
  let v1099 : BitVec 32 := Scalar.remsi v2 v1098
  let c0_i32_921 : BitVec 32 := 0#32
  let v1101 : BitVec 1 := Scalar.cmpi .slt v1099 c0_i32_921
  let c0_i32_922 : BitVec 32 := 0#32
  let v1102 : BitVec 1 := Scalar.cmpi .slt v1098 c0_i32_922
  let v1103 : BitVec 1 := Scalar.xori v1101 v1102
  let c0_i32_920 : BitVec 32 := 0#32
  let v1100 : BitVec 1 := Scalar.cmpi .ne v1099 c0_i32_920
  let v1104 : BitVec 1 := Scalar.andi v1103 v1100
  let v1105 : BitVec 32 := Scalar.addi v1099 v1098
  let v1106 : BitVec 32 := Scalar.select v1104 v1105 v1099
  let c1024_i32_923 : BitVec 32 := 1024#32
  let v1107 : BitVec 32 := Scalar.muli v1106 c1024_i32_923
  let v1108 : Index := Scalar.indexCast v1107
  let c0_924 : Index := 0#32
  ![v1108.toNat, 0]
def k0_off3 (d0 : Dev nD) (c1_i32_937 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1119 : BitVec 32 := Scalar.subi v2 c1_i32_937
  let c4_i32_938 : BitVec 32 := 4#32
  let c0_i32_939 : BitVec 32 := 0#32
  let v1120 : BitVec 1 := Scalar.cmpi .eq c4_i32_938 c0_i32_939
  let c1_i32_940 : BitVec 32 := 1#32
  let v1121 : BitVec 32 := Scalar.select v1120 c1_i32_940 c4_i32_938
  let v1122 : BitVec 32 := Scalar.remsi v1119 v1121
  let c0_i32_942 : BitVec 32 := 0#32
  let v1124 : BitVec 1 := Scalar.cmpi .slt v1122 c0_i32_942
  let c0_i32_943 : BitVec 32 := 0#32
  let v1125 : BitVec 1 := Scalar.cmpi .slt v1121 c0_i32_943
  let v1126 : BitVec 1 := Scalar.xori v1124 v1125
  let c0_i32_941 : BitVec 32 := 0#32
  let v1123 : BitVec 1 := Scalar.cmpi .ne v1122 c0_i32_941
  let v1127 : BitVec 1 := Scalar.andi v1126 v1123
  let v1128 : BitVec 32 := Scalar.addi v1122 v1121
  let v1129 : BitVec 32 := Scalar.select v1127 v1128 v1122
  let c1024_i32_947 : BitVec 32 := 1024#32
  let v1132 : BitVec 32 := Scalar.muli v1129 c1024_i32_947
  let v1133 : Index := Scalar.indexCast v1132
  let c0_948 : Index := 0#32
  ![v1133.toNat, 0]
def k0_dev16 (d0 : Dev nD) : Nat :=
  let c0_i32_1425 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1413 : BitVec 32 := 1#32
  let v1579 : BitVec 32 := Scalar.addi v2 c1_i32_1413
  let c4_i32_1414 : BitVec 32 := 4#32
  let c0_i32_1415 : BitVec 32 := 0#32
  let v1580 : BitVec 1 := Scalar.cmpi .eq c4_i32_1414 c0_i32_1415
  let c1_i32_1416 : BitVec 32 := 1#32
  let v1581 : BitVec 32 := Scalar.select v1580 c1_i32_1416 c4_i32_1414
  let v1582 : BitVec 32 := Scalar.remsi v1579 v1581
  let c0_i32_1418 : BitVec 32 := 0#32
  let v1584 : BitVec 1 := Scalar.cmpi .slt v1582 c0_i32_1418
  let c0_i32_1419 : BitVec 32 := 0#32
  let v1585 : BitVec 1 := Scalar.cmpi .slt v1581 c0_i32_1419
  let v1586 : BitVec 1 := Scalar.xori v1584 v1585
  let c0_i32_1417 : BitVec 32 := 0#32
  let v1583 : BitVec 1 := Scalar.cmpi .ne v1582 c0_i32_1417
  let v1587 : BitVec 1 := Scalar.andi v1586 v1583
  let v1588 : BitVec 32 := Scalar.addi v1582 v1581
  let v1589 : BitVec 32 := Scalar.select v1587 v1588 v1582
  let c1_i32_1424 : BitVec 32 := 1#32
  let v1590 : BitVec 32 := Scalar.muli v1589 c1_i32_1424
  let v1591 : BitVec 32 := Scalar.addi c0_i32_1425 v1590
  v1591.toNat
def k0_dev17 (d0 : Dev nD) : Nat :=
  let c0_i32_1442 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_1430 : BitVec 32 := 2#32
  let v1600 : BitVec 32 := Scalar.addi v2 c2_i32_1430
  let c4_i32_1431 : BitVec 32 := 4#32
  let c0_i32_1432 : BitVec 32 := 0#32
  let v1601 : BitVec 1 := Scalar.cmpi .eq c4_i32_1431 c0_i32_1432
  let c1_i32_1433 : BitVec 32 := 1#32
  let v1602 : BitVec 32 := Scalar.select v1601 c1_i32_1433 c4_i32_1431
  let v1603 : BitVec 32 := Scalar.remsi v1600 v1602
  let c0_i32_1435 : BitVec 32 := 0#32
  let v1605 : BitVec 1 := Scalar.cmpi .slt v1603 c0_i32_1435
  let c0_i32_1436 : BitVec 32 := 0#32
  let v1606 : BitVec 1 := Scalar.cmpi .slt v1602 c0_i32_1436
  let v1607 : BitVec 1 := Scalar.xori v1605 v1606
  let c0_i32_1434 : BitVec 32 := 0#32
  let v1604 : BitVec 1 := Scalar.cmpi .ne v1603 c0_i32_1434
  let v1608 : BitVec 1 := Scalar.andi v1607 v1604
  let v1609 : BitVec 32 := Scalar.addi v1603 v1602
  let v1610 : BitVec 32 := Scalar.select v1608 v1609 v1603
  let c1_i32_1441 : BitVec 32 := 1#32
  let v1611 : BitVec 32 := Scalar.muli v1610 c1_i32_1441
  let v1612 : BitVec 32 := Scalar.addi c0_i32_1442 v1611
  v1612.toNat
def k0_dev18 (d0 : Dev nD) : Nat :=
  let c0_i32_1459 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_1447 : BitVec 32 := 3#32
  let v1621 : BitVec 32 := Scalar.addi v2 c3_i32_1447
  let c4_i32_1448 : BitVec 32 := 4#32
  let c0_i32_1449 : BitVec 32 := 0#32
  let v1622 : BitVec 1 := Scalar.cmpi .eq c4_i32_1448 c0_i32_1449
  let c1_i32_1450 : BitVec 32 := 1#32
  let v1623 : BitVec 32 := Scalar.select v1622 c1_i32_1450 c4_i32_1448
  let v1624 : BitVec 32 := Scalar.remsi v1621 v1623
  let c0_i32_1452 : BitVec 32 := 0#32
  let v1626 : BitVec 1 := Scalar.cmpi .slt v1624 c0_i32_1452
  let c0_i32_1453 : BitVec 32 := 0#32
  let v1627 : BitVec 1 := Scalar.cmpi .slt v1623 c0_i32_1453
  let v1628 : BitVec 1 := Scalar.xori v1626 v1627
  let c0_i32_1451 : BitVec 32 := 0#32
  let v1625 : BitVec 1 := Scalar.cmpi .ne v1624 c0_i32_1451
  let v1629 : BitVec 1 := Scalar.andi v1628 v1625
  let v1630 : BitVec 32 := Scalar.addi v1624 v1623
  let v1631 : BitVec 32 := Scalar.select v1629 v1630 v1624
  let c1_i32_1458 : BitVec 32 := 1#32
  let v1632 : BitVec 32 := Scalar.muli v1631 c1_i32_1458
  let v1633 : BitVec 32 := Scalar.addi c0_i32_1459 v1632
  v1633.toNat
abbrev stage0_0 : Fin 1 → Memref sig .tc .vmem S1024x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S_ : Shape := ⟨0, ![]⟩
abbrev S1x1 : Shape := ⟨2, ![1, 1]⟩

abbrev nBuf : Space → Nat
  | .hbm => 24
  | .vmem => 3
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096x2048, .f32⟩
  | .hbm, ⟨3, _⟩ => ⟨S_, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S4096x2048, .f32⟩
  | .hbm, ⟨12, _⟩ => ⟨S4096x2048, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S4096x2048, .f32⟩
  | .hbm, ⟨17, _⟩ => ⟨S4096x2048, .f32⟩
  | .hbm, ⟨18, _⟩ => ⟨S_, .f32⟩
  | .hbm, ⟨19, _⟩ => ⟨S4096x2048, .f32⟩
  | .hbm, ⟨20, _⟩ => ⟨S4096x2048, .f32⟩
  | .hbm, ⟨21, _⟩ => ⟨S4096x2048, .fp8e4m3⟩
  | .hbm, ⟨22, _⟩ => ⟨S1x1, .f32⟩
  | .hbm, ⟨23, _⟩ => ⟨S4096x2048, .f32⟩
  | .local _ .vmem, ⟨0, _⟩ => ⟨S4096x2048, .fp8e4m3⟩
  | .local _ .vmem, ⟨1, _⟩ => ⟨S1x1, .f32⟩
  | .local _ .vmem, ⟨2, _⟩ => ⟨S4096x2048, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_cst_3 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S4096x2048 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.KernelIdeal.Protocol.lean ====
/-
# The exchange between the four devices: what is held, what is paid, in which order

Device `c` hands every other device a quarter of its columns of `x` (already in the narrow format) and its own running
maximum. The three other devices are numbered by `e : Fin 3`: `fw c e` is the device `e + 1` places after `c`, the one
`c` copies to; `bw c e` the device `e + 1` places before, the one `c` receives from.

* Barrier cell (one unit from each of the others): the unit that arrives from `fw p (rev e)` hands `p` the landing
  regions of that device which `p` writes: three-quarter slab `e' = rev e` of its gather buffer and row `e' + 1` of its
  maxima, at any contents.
* Data copies, four chunks `j` for each `e`: the send cell gives the chunk back, the receive cell of `fw c e` gives it
  the chunk landed. Contents are stated of whole buffers (`xsC`, `xgC`): every chunk is a piece of one function.
* Maxima copies, one for each `e`: the same with row 0 of the maxima read by three copies at once (three shares).

Everything a device pays for at launch is the list `debts`: 3 barrier units, 12 chunk credits, 3 maxima credits, in the
order paid. `owed c k` is what is left after `k` payments.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy, the exchange's with duties `Fin 3`, and the local copies' counters -/

abbrev UB : Type := URounds (GSem nD τ sig) (Fin 3)
/-- Beside them the counters that the local copies draw on. -/
abbrev UU : Type := UR sig nD τ × (UB × Counters)

local notation "𝕄" => MT nD τ sig Unit (Elt F) ℕ UU ℕ

abbrev EP : Emb (UR sig nD τ) (MT nD τ sig Unit (Elt F) ℕ UU ℕ) := embL
def ER : Emb UB (MT nD τ sig Unit (Elt F) ℕ UU ℕ) := (Emb.inl : Emb UB (UB × Counters)).trans embR
instance ER_landsIn : (ER : Emb UB 𝕄).LandsIn (upEmb : UEmb _ 𝕄) := by unfold ER embR; infer_instance

variable (m : (ℓ : Loc nD τ sig) → Buf (Elt F) ℓ) (ρ : Dev nD → PrngReg)

/-- The machine at launch: any memory, every counter zero. -/
def s₀ : MemSt nD τ sig (Elt F) := ⟨m, fun _ => 0, ρ⟩

/-! ## The devices -/

set_option backward.proofsInPublic true in
/-- The device `e + 1` places after `c`. -/
def fw (c : Dev nD) (e : Fin 3) : Dev nD := ⟨(c.val + (e.val + 1)) % 4, Nat.mod_lt _ (by decide)⟩
set_option backward.proofsInPublic true in
/-- The device `e + 1` places before `c`. -/
def bw (c : Dev nD) (e : Fin 3) : Dev nD := ⟨(c.val + (3 - e.val)) % 4, Nat.mod_lt _ (by decide)⟩

theorem bw_fw (c : Dev nD) (e : Fin 3) : bw (fw c e) e = c := by revert c e; decide
theorem fw_bw (c : Dev nD) (e : Fin 3) : fw (bw c e) e = c := by revert c e; decide
theorem fw_fw_rev (c : Dev nD) (e : Fin 3) : fw (fw c e) e.rev = c := by revert c e; decide
theorem bw_eq_fw_rev (c : Dev nD) (e : Fin 3) : bw c e = fw c e.rev := by revert c e; decide

/-- Going `e + 1` places on, as a permutation of the devices. -/
def turn (e : Fin 3) : Dev nD ≃ Dev nD := ⟨fun c => fw c e, fun c => bw c e, fun c => bw_fw c e, fun c => fw_bw c e⟩

/-! ## The buffers -/

abbrev xsM : Memref sig .tc .vmem S4x1024x1024 .bf16 := Memref.whole cc0_scratch0
abbrev xgM : Memref sig .tc .vmem S3x1024x1024 .bf16 := Memref.whole cc0_scratch2
abbrev wbM : Memref sig .tc .vmem S4096x2048 .bf16 := Memref.whole cc0_scratch4
abbrev amM : Memref sig .tc .vmem S4x1x128 .f32 := Memref.whole cc0_scratch5
abbrev outM : Memref sig .tc .vmem S1024x2048 .f32 := Memref.whole cc0_stg0_0

theorem xs_inb (e : Fin 3) (j : Fin 4) : ∀ a, (![e.val + 1, j.val * 256, 0] : Fin 3 → ℕ) a + S1x256x1024.size a ≤ S4x1024x1024.size a := by
  revert e j; decide
theorem xg_inb (e : Fin 3) (j : Fin 4) : ∀ a, (![e.val, j.val * 256, 0] : Fin 3 → ℕ) a + S1x256x1024.size a ≤ S3x1024x1024.size a := by
  revert e j; decide
theorem am_inb (i : Fin 4) : ∀ a, (![i.val, 0, 0] : Fin 3 → ℕ) a + S1x1x128.size a ≤ S4x1x128.size a := by
  revert i; decide
theorem xs0_inb : ∀ a, (![0, 0, 0] : Fin 3 → ℕ) a + (![1, 1024, 1024] : Fin 3 → ℕ) a ≤ S4x1024x1024.size a := by decide

/-- Chunk `j` of the slab meant for `fw c e`, of the send buffer. -/
abbrev xsR (e : Fin 3) (j : Fin 4) : Rect S4x1024x1024 := Rect.unit (s := S4x1024x1024) ![e.val + 1, j.val * 256, 0] S1x256x1024.size (xs_inb e j)
/-- The device's own slab of the send buffer. -/
abbrev xs0R : Rect S4x1024x1024 := Rect.unit (s := S4x1024x1024) ![0, 0, 0] ![1, 1024, 1024] xs0_inb
/-- Chunk `j` of the slab received from `bw c e`, of the gather buffer. -/
abbrev xgR (e : Fin 3) (j : Fin 4) : Rect S3x1024x1024 := Rect.unit (s := S3x1024x1024) ![e.val, j.val * 256, 0] S1x256x1024.size (xg_inb e j)
/-- Row `i` of the maxima. -/
abbrev amR (i : Fin 4) : Rect S4x1x128 := Rect.unit (s := S4x1x128) ![i.val, 0, 0] S1x1x128.size (am_inb i)

/-- The same regions as the copies name them. -/
abbrev xsV (e : Fin 3) (j : Fin 4) : Memref sig .tc .vmem S256x1024 .bf16 := (xsM.slice (xsR e j) (fun _ => rfl)).squeeze S256x1024 squeezes_S1x256x1024_S256x1024
abbrev xgV (e : Fin 3) (j : Fin 4) : Memref sig .tc .vmem S256x1024 .bf16 := (xgM.slice (xgR e j) (fun _ => rfl)).squeeze S256x1024 squeezes_S1x256x1024_S256x1024
abbrev amV (i : Fin 4) : Memref sig .tc .vmem S1x128 .f32 := (amM.slice (amR i) (fun _ => rfl)).squeeze S1x128 squeezes_S1x1x128_S1x128

/-- The credit of one chunk, and of one row of maxima. -/
abbrev N : ℕ := (xgV 0 0).view.dmaCredit
abbrev NA : ℕ := (amV 0).view.dmaCredit
theorem N_pos : 0 < N := View.dmaCredit_pos _ (by decide)
theorem NA_pos : 0 < NA := View.dmaCredit_pos _ (by decide)

theorem xs_set (e : Fin 3) (j : Fin 4) : (xsV e j).view.set = xsM.view.setOn (xsR e j).set := by
  simp only [xsV, xsR, Memref.view_squeeze, View.set_reshape, Memref.view_slice, Memref.view_whole, View.set_slice, View.setOn]
theorem xg_set (e : Fin 3) (j : Fin 4) : (xgV e j).view.set = xgM.view.setOn (xgR e j).set := by
  simp only [xgV, xgR, Memref.view_squeeze, View.set_reshape, Memref.view_slice, Memref.view_whole, View.set_slice, View.setOn]
theorem am_set (i : Fin 4) : (amV i).view.set = amM.view.setOn (amR i).set := by
  simp only [amV, amR, Memref.view_squeeze, View.set_reshape, Memref.view_slice, Memref.view_whole, View.set_slice, View.setOn]

/-! ## The contents -/

/-- Device `p`'s block `b` of rows of `x`, narrowed: element `(r, k)`. -/
def xb (p b : Dev nD) (r k : Fin 1024) : Elt F .bf16 :=
  FloatOps.truncf .bf16 bitsLt_bf16_f32
    (m ((p : Thread nD τ).loc main_arg0) (Shape.pair (d := ![4096, 1024]) ⟨b.val * 1024 + r.val, by have : b.val < 4 := b.isLt; have := r.isLt; show _ < 4096; omega⟩ k))

/-- The send buffer of device `c`, filled: slab `i` is the block meant for the device `i` places after `c`. -/
def xsC (c : Dev nD) : Buf (Elt F) ((c : Thread nD τ).loc cc0_scratch0) := fun i : S4x1024x1024.Idx =>
  xb m c ⟨(c.val + (i 0).val) % 4, Nat.mod_lt _ (by decide)⟩ (i 1) (i 2)

/-- The gather buffer of device `c`, filled: slab `e` is block `c` of the device `bw c e`. -/
def xgC (c : Dev nD) : Buf (Elt F) ((c : Thread nD τ).loc cc0_scratch2) := fun i : S3x1024x1024.Idx =>
  xb m (bw c (i 0)) c (i 1) (i 2)

/-- The narrowed `w` of device `c`. -/
def wbC (c : Dev nD) : Buf (Elt F) ((c : Thread nD τ).loc cc0_scratch4) := fun i : S4096x2048.Idx =>
  FloatOps.truncf .bf16 bitsLt_bf16_f32 (m ((c : Thread nD τ).loc main_arg1) i)

/-- Chunk `j` of block `c` of device `p`'s `x`, narrowed: a left operand. -/
def opA (p c : Dev nD) (j : Fin 4) : Vec F S1x256x1024 .bf16 := fun i =>
  xb m p c ⟨j.val * 256 + (i 1).val, by have := j.isLt; have : (i 1).val < 256 := (i 1).isLt; omega⟩ (i 2)

/-- Block `b` of the narrowed `w` of device `c`: a right operand. -/
def opB (c b : Dev nD) : Vec F S1024x2048 .bf16 := fun i =>
  wbC m c (Shape.pair (d := ![4096, 2048]) ⟨b.val * 1024 + (i 0).val, by have : b.val < 4 := b.isLt; have : (i 0).val < 1024 := (i 0).isLt; show _ < 4096; omega⟩ (i 1))

/-- The first three products of chunk `j`, summed. -/
def acc (c : Dev nD) (j : Fin 4) : FVec F S256x2048 .f32 :=
  k0_pay30 (k0_pay29 (k0_pay28 (opA m c c j) (opB m c c)) (opA m (bw c 0) c j) (opB m c (bw c 0))) (opA m (bw c 1) c j) (opB m c (bw c 1))

/-- Chunk `j` of the product, clipped below at zero. -/
def chunk (c : Dev nD) (j : Fin 4) : FVec F S256x2048 .f32 :=
  k0_pay31 (acc m c j) (opA m (bw c 2) c j) (opB m c (bw c 2))

/-- The running maximum after chunk 0, and after one chunk more. -/
def mxFirst (c : Dev nD) : F .f32 := k0_pay32 (acc m c 0) (opA m (bw c 2) c 0) (opB m c (bw c 2))
def mxNext (c : Dev nD) (j : Fin 4) (v : F .f32) : F .f32 := k0_pay38 v (acc m c j) (opA m (bw c 2) c j) (opB m c (bw c 2))

/-- The maximum of device `c`'s rows. -/
def mx (c : Dev nD) : F .f32 := mxNext m c 3 (mxNext m c 2 (mxNext m c 1 (mxFirst m c)))

/-- The maxima on device `c`, complete: row `i` is that of the device `i` places before. -/
def amC (c : Dev nD) : Buf (Elt F) ((c : Thread nD τ).loc cc0_scratch5) := fun i : S4x1x128.Idx =>
  mx m ⟨(c.val + (4 - (i 0).val)) % 4, Nat.mod_lt _ (by decide)⟩

/-- The rows of device `c` before they are quantised. -/
def yC (c : Dev nD) : FVec F S1024x2048 .f32 := fun i =>
  chunk m c ⟨(i 0).val / 256, by have : (i 0).val < 1024 := (i 0).isLt; omega⟩
    (Shape.pair (d := ![256, 2048]) ⟨(i 0).val % 256, Nat.mod_lt _ (by decide)⟩ (i 1))

/-- The kernel's result on device `c`. -/
def outC (c : Dev nD) : FVec F S1024x2048 .f32 := k0_pay1 (amC m c) (yC m c)

/-! ## The pieces of memory that change hands -/

/-- Chunk `(e, j)` of the send buffer, of the gather buffer, and row `i` of the maxima, at contents `f`. -/
def xsPts (c : Dev nD) (e : Fin 3) (j : Fin 4) (f : Buf (Elt F) (xsM.view.loc (c : Thread nD τ))) : sProp 𝕄 :=
  xsM.view.loc (c : Thread nD τ) ↦[xsM.view.setOn (xsR e j).set]{fullShare} f
def xgPts (c : Dev nD) (e : Fin 3) (j : Fin 4) (f : Buf (Elt F) (xgM.view.loc (c : Thread nD τ))) : sProp 𝕄 :=
  xgM.view.loc (c : Thread nD τ) ↦[xgM.view.setOn (xgR e j).set]{fullShare} f
def amPts (c : Dev nD) (i : Fin 4) (q : PosShare TreeShare) (f : Buf (Elt F) (amM.view.loc (c : Thread nD τ))) : sProp 𝕄 :=
  amM.view.loc (c : Thread nD τ) ↦[amM.view.setOn (amR i).set]{q} f

/-- A third of row 0 of the maxima for each copy. -/
def third : Fin 3 → PosShare TreeShare
  | 0 => fullShare.left
  | 1 => fullShare.right.left
  | 2 => fullShare.right.right

/-- What the device `fw p e` lets `p` write: slab `e` of its gather buffer and row `e + 1` of its maxima. -/
def landing (p : Dev nD) (e : Fin 3) : sProp 𝕄 :=
  iprop((∃ f, xgPts (fw p e) e 0 f) ∗ (∃ f, xgPts (fw p e) e 1 f) ∗ (∃ f, xgPts (fw p e) e 2 f) ∗ (∃ f, xgPts (fw p e) e 3 f)
    ∗ (∃ f, amPts (fw p e) e.succ fullShare f))

instance xsPts_storable (c : Dev nD) (e j f) : BI.Storable (upEmb : UEmb _ 𝕄) (xsPts (F := F) c e j f) := by unfold xsPts; infer_instance
instance xgPts_storable (c : Dev nD) (e j f) : BI.Storable (upEmb : UEmb _ 𝕄) (xgPts (F := F) c e j f) := by unfold xgPts; infer_instance
instance amPts_storable (c : Dev nD) (i q f) : BI.Storable (upEmb : UEmb _ 𝕄) (amPts (F := F) c i q f) := by unfold amPts; infer_instance
instance landing_storable (p : Dev nD) (e) : BI.Storable (upEmb : UEmb _ 𝕄) (landing (F := F) p e) := by unfold landing; infer_instance

/-! ## The cells -/

/-- The runtime's barrier semaphore. -/
abbrev barS : Sem sig := (SemArray.scalar (sig.barrier 0 rfl) : Sems sig S_).sem

theorem dsem_lt {n : ℕ} (h : n < 37) : n < 37 := h
abbrev sendSem (e : Fin 3) (j : Fin 4) : DmaSem sig := (⟨1 + e.val * 4 + j.val, by have := e.isLt; have := j.isLt; omega⟩ : Fin 37)
abbrev recvSem (e : Fin 3) (j : Fin 4) : DmaSem sig := (⟨13 + e.val * 4 + j.val, by have := e.isLt; have := j.isLt; omega⟩ : Fin 37)
abbrev asendSem (e : Fin 3) : DmaSem sig := (⟨26 + e.val, by have := e.isLt; omega⟩ : Fin 37)
abbrev arecvSem (e : Fin 3) : DmaSem sig := (⟨30 + e.val, by have := e.isLt; omega⟩ : Fin 37)

abbrev barCell (c : Dev nD) : GSem nD τ sig := ((c : Thread nD τ), .reg barS)
abbrev dcell (c : Dev nD) (q : DmaSem sig) : GSem nD τ sig := ((c : Thread nD τ), .dma q)

/-- The kernel's own semaphores: all DMA semaphores but the result's staging one. -/
abbrev osem : Fin 36 → SemLoc sig := fun i => .dma (⟨i.val + 1, by have := i.isLt; omega⟩ : Fin 37)

/-- The cells of the exchange: the barrier, then DMA semaphores 1 to 32 (of which 25 and 29 are never used). -/
abbrev csem : Fin 33 → SemLoc sig := fun k => if k.val = 0 then .reg barS else .dma (⟨k.val, by have := k.isLt; omega⟩ : Fin 37)
abbrev kcell (ck : Dev nD × Fin 33) : GSem nD τ sig := ((ck.1 : Thread nD τ), csem ck.2)

/-! ## The schedule -/

/-- Which DMA semaphores carry the exchange. -/
def isX (n : ℕ) : Bool := (1 ≤ n) && (n ≤ 32) && (n != 25) && (n != 29)

/-- What arriving on DMA semaphore `n` of device `c` hands over. -/
def dmaPay (c : Dev nD) (n : ℕ) : sProp 𝕄 :=
  if n ≤ 12 then xsPts c ⟨(n - 1) / 4 % 3, Nat.mod_lt _ (by decide)⟩ ⟨(n - 1) % 4, Nat.mod_lt _ (by decide)⟩ (xsC m c)
  else if n ≤ 24 then xgPts c ⟨(n - 13) / 4 % 3, Nat.mod_lt _ (by decide)⟩ ⟨(n - 13) % 4, Nat.mod_lt _ (by decide)⟩ (xgC m c)
  else if n ≤ 28 then amPts c 0 (third ⟨(n - 26) % 3, Nat.mod_lt _ (by decide)⟩) (amC m c)
  else amPts c (⟨(n - 30) % 3, Nat.mod_lt _ (by decide)⟩ : Fin 3).succ fullShare (amC m c)

instance dmaPay_storable (c : Dev nD) (n : ℕ) : BI.Storable (upEmb : UEmb _ 𝕄) (dmaPay (F := F) m c n) := by
  unfold dmaPay; (repeat' split) <;> infer_instance

def payOf (c : Dev nD) : SemLoc sig → Fin 3 → sProp 𝕄
  | .reg _, d => landing c d.rev
  | .dma q, _ => dmaPay m c q.val

instance payOf_storable (c : Dev nD) (sm : SemLoc sig) (d : Fin 3) : BI.Storable (upEmb : UEmb _ 𝕄) (payOf (F := F) m c sm d) := by
  cases sm <;> (unfold payOf; infer_instance)

def dutiesOf : SemLoc sig → Finset (Fin 3)
  | .reg _ => Finset.univ
  | .dma q => if isX q.val then {0} else ∅

def amountOf : SemLoc sig → ℕ
  | .reg _ => 1
  | .dma q => if q.val ≤ 24 then N else NA

/-- One round: a barrier cell has a duty of one unit for each other device, a cell of the exchange one duty of its credit. -/
def ringRd : Rounds.Schedule (GSem nD τ sig) (Fin 3) 𝕄 where
  duties g r := if r = 0 ∧ g.1.2 = .tc then dutiesOf g.2 else ∅
  unitless _ := False
  amount g _ _ := amountOf g.2
  payload g _ d := payOf m g.1.1 g.2 d
  amount_pos g _ _ _ := by
    cases g.2 with
    | reg _ => exact Nat.one_pos
    | dma q => unfold amountOf; dsimp only; split; exacts [N_pos, NA_pos]

instance ringRd_payload_storable (g : GSem nD τ sig) (r : ℕ) (d : Fin 3) :
    BI.Storable (upEmb : UEmb _ 𝕄) ((ringRd (F := F) m).payload g r d) := by
  show BI.Storable upEmb (payOf m g.1.1 g.2 d); infer_instance

theorem duties_later (g : GSem nD τ sig) : ∀ r, 1 ≤ r → (ringRd (F := F) m).duties g r = ∅ :=
  fun r hr => by dsimp only [ringRd]; rw [if_neg fun h => by omega]

theorem duties_at (c : Dev nD) (sm : SemLoc sig) : (ringRd (F := F) m).duties ((c : Thread nD τ), sm) 0 = dutiesOf sm := by
  dsimp only [ringRd]; exact if_pos ⟨rfl, rfl⟩

theorem duties_dma (c : Dev nD) (q : DmaSem sig) (hq : isX q.val = true) : (ringRd (F := F) m).duties (dcell c q) 0 = {0} := by
  rw [duties_at]; unfold dutiesOf; exact if_pos hq

theorem duties_idle (c : Dev nD) (q : DmaSem sig) (hq : isX q.val = false) : ∀ r, 0 ≤ r → (ringRd (F := F) m).duties (dcell c q) r = ∅ := fun r _ => by
  dsimp only [ringRd]; split
  · show (if isX q.val = true then ({0} : Finset (Fin 3)) else ∅) = ∅
    rw [if_neg (by rw [hq]; decide)]
  · rfl

theorem expect_dma (c : Dev nD) (q : DmaSem sig) (hq : isX q.val = true) : (ringRd (F := F) m).expect (dcell c q) 0 = amountOf (.dma q) := by
  unfold Schedule.expect Schedule.amountOf; rw [duties_dma m c q hq, Finset.sum_singleton]; rfl

theorem expect_bar (c : Dev nD) : (ringRd (F := F) m).expect (barCell c) 0 = 3 := by
  unfold Schedule.expect Schedule.amountOf
  rw [duties_at]; rfl

theorem rest_dma (c : Dev nD) (q : DmaSem sig) (hq : isX q.val = true) :
    bigSep ((ringRd (F := F) m).duties (dcell c q) 0 \ ∅) (fun d => (ringRd (F := F) m).payload (dcell c q) 0 d) = dmaPay m c q.val := by
  rw [Finset.sdiff_empty, duties_dma m c q hq, bigSep_singleton]; rfl

theorem rest_bar (c : Dev nD) :
    bigSep ((ringRd (F := F) m).duties (barCell c) 0 \ ∅) (fun d => (ringRd (F := F) m).payload (barCell c) 0 d)
      = iprop(landing c 2 ∗ landing c 1 ∗ landing c 0) := by
  rw [Finset.sdiff_empty, duties_at, show dutiesOf (.reg barS) = Finset.univ from rfl,
    bigSep_univ_eq_bigSepL [0, 1, 2] (by decide) (by decide), bigSepL_cons_cons, bigSepL_cons_cons, bigSepL_singleton]
  rfl

theorem pay_send (c : Dev nD) (e : Fin 3) (j : Fin 4) : dmaPay m c (sendSem e j).val = xsPts c e j (xsC m c) := by
  fin_cases e <;> fin_cases j <;> rfl
theorem pay_recv (c : Dev nD) (e : Fin 3) (j : Fin 4) : dmaPay m c (recvSem e j).val = xgPts c e j (xgC m c) := by
  fin_cases e <;> fin_cases j <;> rfl
theorem pay_asend (c : Dev nD) (e : Fin 3) : dmaPay m c (asendSem e).val = amPts c 0 (third e) (amC m c) := by
  fin_cases e <;> rfl
theorem pay_arecv (c : Dev nD) (e : Fin 3) : dmaPay m c (arecvSem e).val = amPts c e.succ fullShare (amC m c) := by
  fin_cases e <;> rfl

/-! ## What each device owes, and the order of waiting -/

/-- A list of payments as a tally: the first payment is the last summand. -/
def tallies : List (GSem nD τ sig × ℕ) → CellTallies nD τ sig Unit
  | [] => 0
  | p :: l => tallies l + tallyAt p.1 () p.2

/-- The payments of device `c` in program order: the barriers, the chunks (chunk number outside), the maxima. -/
def debts (c : Dev nD) : List (GSem nD τ sig × ℕ) :=
  [(barCell (fw c 0), 1), (barCell (fw c 1), 1), (barCell (fw c 2), 1),
   (dcell (fw c 0) (recvSem 0 0), N), (dcell (fw c 1) (recvSem 1 0), N), (dcell (fw c 2) (recvSem 2 0), N),
   (dcell (fw c 0) (recvSem 0 1), N), (dcell (fw c 1) (recvSem 1 1), N), (dcell (fw c 2) (recvSem 2 1), N),
   (dcell (fw c 0) (recvSem 0 2), N), (dcell (fw c 1) (recvSem 1 2), N), (dcell (fw c 2) (recvSem 2 2), N),
   (dcell (fw c 0) (recvSem 0 3), N), (dcell (fw c 1) (recvSem 1 3), N), (dcell (fw c 2) (recvSem 2 3), N),
   (dcell (fw c 0) (arecvSem 0), NA), (dcell (fw c 1) (arecvSem 1), NA), (dcell (fw c 2) (arecvSem 2), NA)]

/-- What device `c` owes after `k` payments. -/
def owed (c : Dev nD) (k : ℕ) : CellTallies nD τ sig Unit := tallies ((debts c).drop k)

theorem owed_done (c : Dev nD) : owed c 18 = 0 := rfl

def L (g : GSem nD τ sig) : Finset Unit := if g.1.2 = .tc then {()} else ∅

/-- Barrier cells at 1, receive cells at 2, the maxima's receive cells at 3, everything else at 0. -/
def lvOf : SemLoc sig → ℕ
  | .reg _ => 1
  | .dma q => if 13 ≤ q.val ∧ q.val ≤ 24 then 2 else if 30 ≤ q.val ∧ q.val ≤ 32 then 3 else 0
def lv (g : GSem nD τ sig) (_ : Unit) : ℕ := lvOf g.2

theorem L_of_ne (g : GSem nD τ sig) (h : g.1.2 ≠ .tc) : L g = ∅ := if_neg h
theorem L_tc (c : Dev nD) (sm : SemLoc sig) : L ((c : Thread nD τ), sm) = {()} := if_pos rfl

theorem tallies_pos {l : List (GSem nD τ sig × ℕ)} {g : GSem nD τ sig} {u : Unit} (h : 0 < tallies l g u) : ∃ p ∈ l, p.1 = g := by
  induction l with
  | nil => exact absurd h (Nat.lt_irrefl 0)
  | cons p l ih =>
    unfold tallies at h
    rw [Pi.add_apply, Finsupp.add_apply, tallyAt_apply] at h
    by_cases hp : g = p.1
    · exact ⟨p, List.mem_cons_self, hp.symm⟩
    · rw [if_neg (fun h' => hp h'.1), Nat.add_zero] at h
      obtain ⟨p', hp', e⟩ := ih h
      exact ⟨p', List.mem_cons_of_mem _ hp', e⟩

/-- A wait below everything still owed is allowed. -/
theorem mayWait_of (c : Dev nD) (sm : SemLoc sig) (l : List (GSem nD τ sig × ℕ))
    (h : ∀ p ∈ l, p.1.1.2 = .tc ∧ lvOf sm < lvOf p.1.2) :
    (levAts L lv : sProp 𝕄) ⊢ MayWait (c : Thread nD τ) sm () (tallies l) :=
  MayOwe.of_cut (L := L) (lev := lv) (lvOf sm) (fun p hp => by rw [Finset.mem_singleton.mp hp, L_tc]; exact Finset.mem_singleton_self _)
    (fun g u hg => by
      obtain ⟨p, hp, rfl⟩ := tallies_pos hg
      unfold L; rw [if_pos (h p hp).1]; exact Finset.mem_singleton_self _)
    (fun p hp => by rw [Finset.mem_singleton.mp hp]; exact le_refl _)
    (fun g u hg => by
      obtain ⟨p, hp, rfl⟩ := tallies_pos hg
      exact (h p hp).2)

/-- The levels of the debts, in order. -/
theorem debts_levels (c : Dev nD) : (debts c).map (fun p => (p.1.1.2, lvOf p.1.2))
    = [(.tc, 1), (.tc, 1), (.tc, 1), (.tc, 2), (.tc, 2), (.tc, 2), (.tc, 2), (.tc, 2), (.tc, 2), (.tc, 2), (.tc, 2), (.tc, 2), (.tc, 2), (.tc, 2), (.tc, 2),
      (.tc, 3), (.tc, 3), (.tc, 3)] := rfl

/-- Device `c` may wait on a cell below the debts left after `k` payments, checked on the list of levels. -/
theorem mayWait_owed (c : Dev nD) (sm : SemLoc sig) (k : ℕ)
    (h : ∀ p ∈ ((debts c).map (fun p => (p.1.1.2, lvOf p.1.2))).drop k, p.1 = .tc ∧ lvOf sm < p.2) :
    (levAts L lv : sProp 𝕄) ⊢ MayWait (c : Thread nD τ) sm () (owed c k) :=
  mayWait_of c sm _ fun p hp => h (p.1.1.2, lvOf p.1.2) (by rw [← List.map_drop]; exact List.mem_map_of_mem hp)

/-- A cell at level 0 may be waited on at any time. -/
theorem mayWait_low (c : Dev nD) (sm : SemLoc sig) (h0 : lvOf sm = 0) (k : ℕ) :
    (levAts L lv : sProp 𝕄) ⊢ MayWait (c : Thread nD τ) sm () (owed c k) :=
  mayWait_owed c sm k fun p hp => by
    have hp' := List.mem_of_mem_drop hp
    rw [debts_levels] at hp'
    rw [h0]
    clear hp
    revert p; decide

end Cert.KernelIdealProof
-- ==== Proof.KernelIdeal.Rules.lean ====
/-
# One rule for each kind of step of the exchange

The signals, the barrier wait, the copies of chunks and of maxima, and the waits on the exchange's cells, each stated
once for every device and every place in the schedule.
-/
module

public import proofs.«01_k».proof.Proof.KernelIdeal.Protocol

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

abbrev 𝒱₀ : Variants := Variants.none

/-! ## The shared records: every cell's invariant, and that every cell has reached its round -/

def records (K : Dev nD × Fin 33 → ℕ) : sProp 𝕄 :=
  iprop((bigSep Finset.univ fun ck : Dev nD × Fin 33 => cellInv ER (ringRd m) (K ck) (kcell ck))
    ∗ bigSep Finset.univ fun ck : Dev nD × Fin 33 => reached ER (kcell ck) 0)

instance records_persistent (K : Dev nD × Fin 33 → ℕ) : BI.Persistent (records m K) := by unfold records; infer_instance

theorem records_bar (K : Dev nD × Fin 33 → ℕ) (c : Dev nD) :
    records m K ⊢ iprop(cellInv ER (ringRd m) (K (c, 0)) (barCell c) ∗ reached ER (barCell c) 0) := by
  unfold records
  exact BIClass.sep_mono (bigSep_elim (Finset.mem_univ (c, (0 : Fin 33)))) (bigSep_elim (Finset.mem_univ (c, (0 : Fin 33))))

/-- The place of a DMA semaphore of the exchange among its cells. -/
def place (q : DmaSem sig) : Fin 33 := ⟨q.val % 33, Nat.mod_lt _ (by decide)⟩

theorem kcell_place (c : Dev nD) (q : DmaSem sig) (hq : 1 ≤ q.val ∧ q.val ≤ 32) : kcell (c, place q) = dcell c q := by
  have hm : q.val % 33 = q.val := Nat.mod_eq_of_lt (by omega)
  have h0 : ¬ (place q).val = 0 := by show ¬ q.val % 33 = 0; omega
  show ((c : Thread nD τ), csem (place q)) = ((c : Thread nD τ), SemLoc.dma q)
  unfold csem; rw [if_neg h0]
  exact congrArg (fun x : Fin 37 => ((c : Thread nD τ), (SemLoc.dma (sig := sig) x))) (Fin.ext hm)

theorem records_dma (K : Dev nD × Fin 33 → ℕ) (c : Dev nD) (q : DmaSem sig) (hq : 1 ≤ q.val ∧ q.val ≤ 32) :
    records m K ⊢ iprop(cellInv ER (ringRd m) (K (c, place q)) (dcell c q) ∗ reached ER (dcell c q) 0) := by
  unfold records
  have h1 := bigSep_elim (Φ := fun ck : Dev nD × Fin 33 => (cellInv ER (ringRd m) (K ck) (kcell ck) : sProp 𝕄)) (Finset.mem_univ (c, place q))
  have h2 := bigSep_elim (Φ := fun ck : Dev nD × Fin 33 => (reached ER (kcell ck) 0 : sProp 𝕄)) (Finset.mem_univ (c, place q))
  rw [kcell_place c q hq] at h1 h2
  exact BIClass.sep_mono h1 h2

/-! ## Waiting on a cell of the exchange -/

/-- The cell of DMA semaphore `q`, not yet waited on: its position and, once it has been paid for, the credit. -/
def todo (c : Dev nD) (q : DmaSem sig) : sProp 𝕄 := iprop(atPos ER (dcell c q) 0 ∅ 0 ∗ cred (tallyAt (dcell c q) () (amountOf (.dma q))))
/-- The same cell closed: its counter, at zero, is the device's own again. -/
def closed (c : Dev nD) (q : DmaSem sig) : sProp 𝕄 := semVal (dcell c q) 0

theorem isX_range {q : DmaSem sig} (hq : isX q.val = true) : 1 ≤ q.val ∧ q.val ≤ 32 := by
  unfold isX at hq
  simp only [Bool.and_eq_true, decide_eq_true_eq] at hq
  exact ⟨hq.1.1.1, hq.1.1.2⟩

/-- A wait on a cell of the exchange gives what the cell hands over, and the cell closed. -/
theorem wp_wait_x (K : Dev nD × Fin 33 → ℕ) (c : Dev nD) (q : DmaSem sig) (hq : isX q.val = true)
    {sp sp' : Space} {s s' : Shape} {e e' : EltTy} {sem : DmaSem sig} (hsem : sem = q)
    {src : Memref sig (Dev.tc c : Thread nD τ).2.kind sp' s' e'} {κ' : Kind} {dst : Memref sig κ' sp s e}
    {hsrc : src.view.WordExact} {hdst : dst.view.WordExact} (hn : dst.view.dmaCredit = amountOf (.dma q))
    {α : Type} {Q : α → sProp 𝕄} {k : PUnit → Prog (TpuEff nD τ sig (Elt F) Λ₀ .tc) α}
    (n : ℕ) (hw : (levAts L lv : sProp 𝕄) ⊢ MayWait (c : Thread nD τ) (.dma q) () (owed c n)) (W : Waits sig Unit) :
    iprop(records m K ∗ levAts L lv ∗ todo c q ∗ owes (c : Thread nD τ) (owed c n) W)
      ⊢ iprop(((owes (c : Thread nD τ) (owed c n) (insert (SemLoc.dma q, ()) W) ∗ closed c q ∗ dmaPay m c q.val)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sem src dst hsrc hdst) k) Q) := by
  subst hsem
  unfold todo closed
  iintro ⟨#Hr, #Hlev, ⟨Hat, Hc⟩, HO⟩ Hk
  ihave Hcell := (records_dma m K c sem (isX_range hq)) $$ Hr
  icases Hcell with ⟨#HI, -⟩
  rw [← hn]
  iapply (Rounds.wp_wait_rest_token 𝒱₀ ER (ringRd m) (c : Thread nD τ) none (κ := K (c, place sem))
      (wpE_waitDma2_eq 𝒱₀ (c : Thread nD τ) none Set.univ) (Set.mem_univ _) () (O := owed c n) (W := W) (R := 0) (m := 0) (T := ∅)
      (by rw [Nat.zero_add, expect_dma m c sem hq, hn])) $$ [Hc HO Hat]
  · isplitr; · iexact HI
    isplitl [Hc]; · iexact Hc
    isplitl [HO]; · iexact HO
    isplitr; · iapply hw; iexact Hlev
    iexact Hat
  iintro ⟨HO, Hat, -, Hpay⟩
  ihave Hp := (Entails.of_eq (rest_dma m c sem hq)) $$ Hpay
  imod (Rounds.cell_close ER (ringRd m) (Set.mem_univ (K (c, place sem))) (fun h => h) (R := 0 + 1) (duties_later m (dcell c sem))) $$ [Hat] with Hz
  · isplitr; · iexact HI
    iexact Hat
  iapply Hk
  isplitl [HO]; · iexact HO
  isplitl [Hz]; · iexact Hz
  iexact Hp

/-! ## The handshake -/

/-- The regions of `c` that `bw c e` writes, at any contents. -/
def ownLanding (c : Dev nD) (e : Fin 3) : sProp 𝕄 :=
  iprop((∃ f, xgPts c e 0 f) ∗ (∃ f, xgPts c e 1 f) ∗ (∃ f, xgPts c e 2 f) ∗ (∃ f, xgPts c e 3 f) ∗ (∃ f, amPts c e.succ fullShare f))

theorem landing_eq (c : Dev nD) (e : Fin 3) : (landing (fw c e) e.rev : sProp 𝕄) = ownLanding c e.rev := by
  unfold landing ownLanding; rw [fw_fw_rev]

theorem pays_bar (c : Dev nD) (e : Fin 3) : owed c e.val = owed c (e.val + 1) + tallyAt (barCell (fw c e)) () 1 := by
  fin_cases e <;> rfl

/-- Signalling the device `e + 1` places on, with the regions it writes. -/
theorem wp_bar_signal (K : Dev nD × Fin 33 → ℕ) (c n : Dev nD) (e : Fin 3) (hn : n = fw c e)
    {α : Type} {Q : α → sProp 𝕄} {k : PUnit → Prog (TpuEff nD τ sig (Elt F) Λ₀ .tc) α} (W : Waits sig Unit) :
    iprop(records m K ∗ owes (c : Thread nD τ) (owed c e.val) W ∗ dutyTok ER (barCell (fw c e)) 0 e ∗ ownLanding c e.rev)
      ⊢ iprop((owes (c : Thread nD τ) (owed c (e.val + 1)) W
            -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n : Thread nD τ) barS (1#32).toInt) k) Q) := by
  subst hn
  iintro ⟨#Hr, HO, Ht, Hl⟩ Hk
  ihave Hcell := (records_bar m K (fw c e)) $$ Hr
  icases Hcell with ⟨#HI, #HR⟩
  iapply (Rounds.wp_signal 𝒱₀ ER (ringRd m) (c : Thread nD τ) none (dst := (fw c e : Thread nD τ)) (κ := K (fw c e, 0))
      (d := e) (by rw [duties_at]; exact Finset.mem_univ _) (by rfl) () (owed c (e.val + 1)) (pays_bar c e))
    $$ [HO Ht Hl]
  · isplitr; · iexact HI
    isplitl [HO]; · iexact HO
    isplitl [Ht]; · iexact Ht
    isplitl [Hl]
    · rw [show (ringRd m).payload (barCell (fw c e)) 0 e = landing (fw c e) e.rev from rfl, landing_eq]; iexact Hl
    iexact HR
  iexact Hk

/-- The wait for the three others: what each of them lets `c` write. -/
theorem wp_bar_wait (K : Dev nD × Fin 33 → ℕ) (c : Dev nD)
    {α : Type} {Q : α → sProp 𝕄} {k : PUnit → Prog (TpuEff nD τ sig (Elt F) Λ₀ .tc) α} (W : Waits sig Unit) :
    iprop(records m K ∗ levAts L lv ∗ owes (c : Thread nD τ) (owed c 3) W ∗ cred (tallyAt (barCell c) () 3) ∗ atPos ER (barCell c) 0 ∅ 0)
      ⊢ iprop(((owes (c : Thread nD τ) (owed c 3) (insert (SemLoc.reg barS, ()) W) ∗ semVal (barCell c) 0 ∗ landing c 2 ∗ landing c 1 ∗ landing c 0)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS (3#32).toInt) k) Q) := by
  iintro ⟨#Hr, #Hlev, HO, Hc, Hat⟩ Hk
  ihave Hcell := (records_bar m K c) $$ Hr
  icases Hcell with ⟨#HI, -⟩
  iapply (Rounds.wp_wait_rest_token 𝒱₀ ER (ringRd m) (c : Thread nD τ) none (κ := K (c, 0))
      (wpE_semWait_eq 𝒱₀ (c : Thread nD τ) none Set.univ) (Set.mem_univ _) () (O := owed c 3) (W := W) (R := 0) (m := 0) (T := ∅)
      (by rw [expect_bar]; decide)) $$ [Hc HO Hat]
  · isplitr; · iexact HI
    isplitl [Hc]; · iexact Hc
    isplitl [HO]; · iexact HO
    isplitr
    · iapply (mayWait_owed c (.reg barS) 3 (by rw [debts_levels]; decide)); iexact Hlev
    iexact Hat
  iintro ⟨HO, Hat, -, Hpay⟩
  ihave Hp := (Entails.of_eq (rest_bar m c)) $$ Hpay
  imod (Rounds.cell_close ER (ringRd m) (Set.mem_univ (K (c, 0))) (fun h => h) (R := 0 + 1) (duties_later m (barCell c))) $$ [Hat] with Hz
  · isplitr; · iexact HI
    iexact Hat
  iapply Hk
  isplitl [HO]; · iexact HO
  isplitl [Hz]; · iexact Hz
  iexact Hp

/-! ## The copies -/

/-- Two indices of a rank-3 shape with the same coordinates. -/
theorem idx3_ext {d : Fin 3 → ℕ} {i i' : (⟨3, d⟩ : Shape).Idx} (h0 : (i 0).val = (i' 0).val) (h1 : (i 1).val = (i' 1).val) (h2 : (i 2).val = (i' 2).val) : i = i' := by
  funext a; fin_cases a
  exacts [Fin.ext h0, Fin.ext h1, Fin.ext h2]

/-- A chunk of the send buffer is the chunk of the gather buffer it is copied to. -/
theorem chunk_copied (c : Dev nD) (e : Fin 3) (j : Fin 4) :
    (xgV e j).view.read (Elt F) (xgC m (fw c e)) = (xsV e j).view.read (Elt F) (xsC m c) := by
  funext x
  show xgC m (fw c e) ((xgR e j).emb (Shape.reshapeEquiv _ x)) = xsC m c ((xsR e j).emb (Shape.reshapeEquiv _ x))
  generalize Shape.reshapeEquiv _ x = y
  have h0 : (y 0).val = 0 := by have : (y 0).val < 1 := (y 0).isLt; omega
  have e0 : ((xgR e j).emb y) 0 = e := Fin.ext (by rw [Rect.emb_apply]; show e.val + 1 * (y 0).val = e.val; omega)
  have s0 : ((xsR e j).emb y 0).val = e.val + 1 := by rw [Rect.emb_apply]; show e.val + 1 + 1 * (y 0).val = e.val + 1; omega
  unfold xgC xsC
  dsimp only
  rw [e0, bw_fw]
  congr 1
  exact Fin.ext (by show (c.val + (e.val + 1)) % 4 = (c.val + ((xsR e j).emb y 0).val) % 4; rw [s0])

/-- A row of maxima likewise. -/
theorem row_copied (c : Dev nD) (e : Fin 3) :
    (amV e.succ).view.read (Elt F) (amC m (fw c e)) = (amV 0).view.read (Elt F) (amC m c) := by
  funext x
  show amC m (fw c e) ((amR e.succ).emb (Shape.reshapeEquiv _ x)) = amC m c ((amR 0).emb (Shape.reshapeEquiv _ x))
  generalize Shape.reshapeEquiv _ x = y
  have h0 : (y 0).val = 0 := by have : (y 0).val < 1 := (y 0).isLt; omega
  have d0 : ((amR e.succ).emb y 0).val = e.val + 1 := by rw [Rect.emb_apply]; show e.val + 1 + 1 * (y 0).val = e.val + 1; omega
  have s0 : ((amR 0).emb y 0).val = 0 := by rw [Rect.emb_apply]; show 0 + 1 * (y 0).val = 0; omega
  unfold amC
  dsimp only
  congr 1
  apply Fin.ext
  show ((fw c e).val + (4 - ((amR e.succ).emb y 0).val)) % 4 = (c.val + (4 - ((amR 0).emb y 0).val)) % 4
  rw [d0, s0]
  clear d0 s0 h0; clear y
  revert c e; decide

/-- Elements of a view rewritten with what `g` reads there hold `g`. -/
theorem write_read_at {c : Thread nD τ} {sp : Space} {s : Shape} {e : EltTy} (v : View sig c.2.kind sp s e) (fd g : Buf (Elt F) (v.loc c)) (X : s.Idx → Elt F e)
    (q : PosShare TreeShare) (h : v.read (Elt F) g = X) :
    (v.loc c ↦[v.set]{q} v.write (Elt F) fd X Finset.univ : sProp 𝕄) = (v.loc c ↦[v.set]{q} g) := by
  refine pointsTo_congr fun i hi => ?_
  obtain ⟨x, -, rfl⟩ := Finset.mem_map.mp hi
  subst h
  rw [View.write_emb_of_mem (h := Finset.mem_univ x)]
  exact cast_cast ..

theorem pays_chunk (c : Dev nD) (e : Fin 3) (j : Fin 4) :
    owed c (3 + (j.val * 3 + e.val)) = owed c (4 + (j.val * 3 + e.val)) + tallyAt (dcell (fw c e) (recvSem e j)) () N := by
  fin_cases e <;> fin_cases j <;> rfl

theorem pays_row (c : Dev nD) (e : Fin 3) :
    owed c (15 + e.val) = owed c (16 + e.val) + tallyAt (dcell (fw c e) (arecvSem e)) () NA := by
  fin_cases e <;> rfl

theorem isX_send (e : Fin 3) (j : Fin 4) : isX (sendSem e j).val = true := by revert e j; decide
theorem isX_recv (e : Fin 3) (j : Fin 4) : isX (recvSem e j).val = true := by revert e j; decide
theorem isX_asend (e : Fin 3) : isX (asendSem e).val = true := by revert e; decide
theorem isX_arecv (e : Fin 3) : isX (arecvSem e).val = true := by revert e; decide
theorem amount_send (e : Fin 3) (j : Fin 4) : amountOf (.dma (sendSem e j)) = N := by fin_cases e <;> fin_cases j <;> rfl
theorem amount_recv (e : Fin 3) (j : Fin 4) : amountOf (.dma (recvSem e j)) = N := by fin_cases e <;> fin_cases j <;> rfl
theorem amount_asend (e : Fin 3) : amountOf (.dma (asendSem e)) = NA := by fin_cases e <;> rfl
theorem amount_arecv (e : Fin 3) : amountOf (.dma (arecvSem e)) = NA := by fin_cases e <;> rfl

end Cert.KernelIdealProof
-- ==== Proof.KernelIdeal.Send.lean ====
/-
# The copies of the exchange

One rule for the copies of chunks and one for the copies of maxima, and the waits for them, each stated once for every device and every place in
the schedule.
-/
module

public import proofs.«01_k».proof.Proof.KernelIdeal.Rules

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- What the copy of chunk `(e, j)` uses up besides memory: its two duties and the position of its send cell. -/
def sendKit (c : Dev nD) (e : Fin 3) (j : Fin 4) : sProp 𝕄 :=
  iprop(dutyTok ER (dcell c (sendSem e j)) 0 0 ∗ dutyTok ER (dcell (fw c e) (recvSem e j)) 0 0 ∗ atPos ER (dcell c (sendSem e j)) 0 ∅ 0)

/-- The copy of chunk `(e, j)`: its send cell can be waited on. -/
theorem wp_send_chunk (K : Dev nD × Fin 33 → ℕ) (c n : Dev nD) (e : Fin 3) (j : Fin 4) (hn : n = fw c e) (t : ℕ) (ht : t = 3 + (j.val * 3 + e.val))
    {ss rs : DmaSem sig} (hss : ss = sendSem e j) (hrs : rs = recvSem e j)
    {hsc : (xgV e j : Memref sig (Dev.tc n : Thread nD τ).2.kind .vmem S256x1024 .bf16).view.ref.isScScratch = false}
    {hsrc : (xsV e j).view.WordExact} {hdst : (xgV e j).view.WordExact}
    {hsem : DmaTarget.Typed .vmem (.dma rs) (.remote (Dev.tc n : Thread nD τ) (xgV e j) (.dma ss) hsc)}
    {α : Type} {Q : α → sProp 𝕄} {k : PUnit → Prog (TpuEff nD τ sig (Elt F) Λ₀ .tc) α} (W : Waits sig Unit) :
    iprop(records m K ∗ sendKit c e j ∗ (∃ f, xgPts (fw c e) e j f) ∗ xsPts c e j (xsC m c) ∗ owes (c : Thread nD τ) (owed c t) W)
      ⊢ iprop(((owes (c : Thread nD τ) (owed c (t + 1)) W ∗ todo c (sendSem e j)) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (xsV e j) (.remote (Dev.tc n : Thread nD τ) (xgV e j) (.dma ss) hsc) (.dma rs) hsrc hdst hsem) k) Q) := by
  subst hn hss hrs ht
  unfold sendKit xsPts xgPts todo
  rw [← xs_set, ← xg_set, amount_send]
  iintro ⟨#Hr, ⟨Hts, Htr, Hat⟩, ⟨%fd, Hd⟩, Hs, HO⟩ Hk
  ihave Hcs := (records_dma m K c (sendSem e j) (isX_range (isX_send e j))) $$ Hr
  icases Hcs with ⟨#HIs, #HRs⟩
  ihave Hcr := (records_dma m K (fw c e) (recvSem e j) (isX_range (isX_recv e j))) $$ Hr
  icases Hcr with ⟨#HIr, #HRr⟩

  have hr : τ.routes (c : Thread nD τ) (fw c e : Thread nD τ) = true := by routes
  have h1 : ((xgV e j).view.amount (SemLoc.dma (recvSem e j)) : ℕ) = N := rfl
  have p1 : ((xsV e j).view.loc (c : Thread nD τ) ↦[(xsV e j).view.set]{fullShare} xsC m c : sProp 𝕄) ⊢ (ringRd m).payload (dcell c (sendSem e j)) 0 0 := by
    rw [show (ringRd m).payload (dcell c (sendSem e j)) 0 0 = dmaPay m c (sendSem e j).val from rfl, pay_send]; unfold xsPts; rw [← xs_set]
  have p2 : ((xgV e j).view.loc (fw c e : Thread nD τ) ↦[(xgV e j).view.set]{fullShare} (xgV e j).view.write (Elt F) fd ((xsV e j).view.read (Elt F) (xsC m c)) Finset.univ : sProp 𝕄) ⊢ (ringRd m).payload (dcell (fw c e) (recvSem e j)) 0 0 := by
    rw [show (ringRd m).payload (dcell (fw c e) (recvSem e j)) 0 0 = dmaPay m (fw c e) (recvSem e j).val from rfl, pay_recv]; unfold xgPts; rw [← xg_set]
    exact Entails.of_eq (write_read_at (c := (fw c e : Thread nD τ)) (xgV e j).view fd (xgC m (fw c e)) _ fullShare (chunk_copied m c e j))
  have d1 : (0 : Fin 3) ∈ (ringRd m).duties (dcell c (sendSem e j)) 0 := by rw [duties_dma m c _ (isX_send e j)]; exact Finset.mem_singleton_self _
  have d2 : (0 : Fin 3) ∈ (ringRd m).duties (dcell (fw c e) (recvSem e j)) 0 := by rw [duties_dma m (fw c e) _ (isX_recv e j)]; exact Finset.mem_singleton_self _
  iapply (Rounds.wp_send_pointsTo (𝒱₀) ER (ringRd m) (c : Thread nD τ) none (defs := defs₀ (F := F)) (c' := (fw c e : Thread nD τ)) (src := xsV e j) (dst := xgV e j)
    (hsc := hsc) (sS := .dma (sendSem e j)) (sem := .dma (recvSem e j)) (hsrc := hsrc) (hdst := hdst) (hsem := hsem) (k := k) (Q := Q) (q := fullShare) (fs := xsC m c) (fd := fd) (r₁ := 0) (r₂ := 0) (d₁ := 0) (d₂ := 0)
    (κ₁ := K (c, place (sendSem e j))) (κ₂ := K (fw c e, place (recvSem e j))) d1 d2 () () N h1
    (show (ringRd m).amount (dcell c (sendSem e j)) 0 0 = N from amount_send e j)
    (show (ringRd m).amount (dcell (fw c e) (recvSem e j)) 0 0 = N from amount_recv e j)
    (owed c (4 + (j.val * 3 + e.val))) (pays_chunk c e j) (W := W) p1 p2 (Es := Set.univ) hr) $$ [Hs Hd HO Hts Htr]
  · isplitr; · iexact HIs
    isplitr; · iexact HIr
    isplitl [Hs]; · iexact Hs
    isplitl [Hd]; · iexact Hd
    isplitl [HO]; · iexact HO
    isplitl [Hts]; · iexact Hts
    isplitr; · iexact HRs
    isplitl [Htr]; · iexact Htr
    iexact HRr
  iintro ⟨Hc, HO⟩
  iapply Hk
  isplitl [HO]
  · rw [show 4 + (j.val * 3 + e.val) = 3 + (j.val * 3 + e.val) + 1 by omega]; iexact HO
  isplitl [Hat]; · iexact Hat
  iexact Hc

/-- What the copy of the maximum to `fw c e` uses up besides memory. -/
def rowKit (c : Dev nD) (e : Fin 3) : sProp 𝕄 :=
  iprop(dutyTok ER (dcell c (asendSem e)) 0 0 ∗ dutyTok ER (dcell (fw c e) (arecvSem e)) 0 0 ∗ atPos ER (dcell c (asendSem e)) 0 ∅ 0)

/-- The copy of the maximum to `fw c e`. -/
theorem wp_send_row (K : Dev nD × Fin 33 → ℕ) (c n : Dev nD) (e : Fin 3) (hn : n = fw c e) (t : ℕ) (ht : t = 15 + e.val)
    {ss rs : DmaSem sig} (hss : ss = asendSem e) (hrs : rs = arecvSem e)
    {hsc : (amV e.succ : Memref sig (Dev.tc n : Thread nD τ).2.kind .vmem S1x128 .f32).view.ref.isScScratch = false}
    {hsrc : (amV 0).view.WordExact} {hdst : (amV e.succ).view.WordExact}
    {hsem : DmaTarget.Typed .vmem (.dma rs) (.remote (Dev.tc n : Thread nD τ) (amV e.succ) (.dma ss) hsc)}
    {α : Type} {Q : α → sProp 𝕄} {k : PUnit → Prog (TpuEff nD τ sig (Elt F) Λ₀ .tc) α} (W : Waits sig Unit) :
    iprop(records m K ∗ rowKit c e ∗ (∃ f, amPts (fw c e) e.succ fullShare f) ∗ amPts c 0 (third e) (amC m c) ∗ owes (c : Thread nD τ) (owed c t) W)
      ⊢ iprop(((owes (c : Thread nD τ) (owed c (t + 1)) W ∗ todo c (asendSem e)) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (amV 0) (.remote (Dev.tc n : Thread nD τ) (amV e.succ) (.dma ss) hsc) (.dma rs) hsrc hdst hsem) k) Q) := by
  subst hn hss hrs ht
  unfold rowKit amPts todo
  rw [← am_set, ← am_set, amount_asend]
  iintro ⟨#Hr, ⟨Hts, Htr, Hat⟩, ⟨%fd, Hd⟩, Hs, HO⟩ Hk
  ihave Hcs := (records_dma m K c (asendSem e) (isX_range (isX_asend e))) $$ Hr
  icases Hcs with ⟨#HIs, #HRs⟩
  ihave Hcr := (records_dma m K (fw c e) (arecvSem e) (isX_range (isX_arecv e))) $$ Hr
  icases Hcr with ⟨#HIr, #HRr⟩
  have hr : τ.routes (c : Thread nD τ) (fw c e : Thread nD τ) = true := by routes
  have h1 : ((amV e.succ).view.amount (SemLoc.dma (arecvSem e)) : ℕ) = NA := rfl
  have p1 : ((amV 0).view.loc (c : Thread nD τ) ↦[(amV 0).view.set]{third e} amC m c : sProp 𝕄) ⊢ (ringRd m).payload (dcell c (asendSem e)) 0 0 := by
    rw [show (ringRd m).payload (dcell c (asendSem e)) 0 0 = dmaPay m c (asendSem e).val from rfl, pay_asend]; unfold amPts; rw [← am_set]
  have p2 : ((amV e.succ).view.loc (fw c e : Thread nD τ) ↦[(amV e.succ).view.set]{fullShare} (amV e.succ).view.write (Elt F) fd ((amV 0).view.read (Elt F) (amC m c)) Finset.univ : sProp 𝕄) ⊢ (ringRd m).payload (dcell (fw c e) (arecvSem e)) 0 0 := by
    rw [show (ringRd m).payload (dcell (fw c e) (arecvSem e)) 0 0 = dmaPay m (fw c e) (arecvSem e).val from rfl, pay_arecv]; unfold amPts; rw [← am_set]
    exact Entails.of_eq (write_read_at (c := (fw c e : Thread nD τ)) (amV e.succ).view fd (amC m (fw c e)) _ fullShare (row_copied m c e))
  have d1 : (0 : Fin 3) ∈ (ringRd m).duties (dcell c (asendSem e)) 0 := by rw [duties_dma m c _ (isX_asend e)]; exact Finset.mem_singleton_self _
  have d2 : (0 : Fin 3) ∈ (ringRd m).duties (dcell (fw c e) (arecvSem e)) 0 := by rw [duties_dma m (fw c e) _ (isX_arecv e)]; exact Finset.mem_singleton_self _
  iapply (Rounds.wp_send_pointsTo (𝒱₀) ER (ringRd m) (c : Thread nD τ) none (defs := defs₀ (F := F)) (c' := (fw c e : Thread nD τ)) (src := amV 0) (dst := amV e.succ)
    (hsc := hsc) (sS := .dma (asendSem e)) (sem := .dma (arecvSem e)) (hsrc := hsrc) (hdst := hdst) (hsem := hsem) (k := k) (Q := Q) (q := third e) (fs := amC m c) (fd := fd) (r₁ := 0) (r₂ := 0) (d₁ := 0) (d₂ := 0)
    (κ₁ := K (c, place (asendSem e))) (κ₂ := K (fw c e, place (arecvSem e))) d1 d2 () () NA h1
    (show (ringRd m).amount (dcell c (asendSem e)) 0 0 = NA from amount_asend e)
    (show (ringRd m).amount (dcell (fw c e) (arecvSem e)) 0 0 = NA from amount_arecv e)
    (owed c (16 + e.val)) (pays_row c e) (W := W) p1 p2 (Es := Set.univ) hr) $$ [Hs Hd HO Hts Htr]
  · isplitr; · iexact HIs
    isplitr; · iexact HIr
    isplitl [Hs]; · iexact Hs
    isplitl [Hd]; · iexact Hd
    isplitl [HO]; · iexact HO
    isplitl [Hts]; · iexact Hts
    isplitr; · iexact HRs
    isplitl [Htr]; · iexact Htr
    iexact HRr
  iintro ⟨Hc, HO⟩
  iapply Hk
  isplitl [HO]
  · rw [show 16 + e.val = 15 + e.val + 1 by omega]; iexact HO
  isplitl [Hat]; · iexact Hat
  iexact Hc

/-! ## The waits -/

theorem send_low (e : Fin 3) (j : Fin 4) : lvOf (.dma (sendSem e j)) = 0 := by revert e j; decide
theorem asend_low (e : Fin 3) : lvOf (.dma (asendSem e)) = 0 := by revert e; decide
theorem recv_level (e : Fin 3) (j : Fin 4) : lvOf (.dma (recvSem e j)) = 2 := by revert e j; decide

/-- Once all chunks are sent only maxima are owed, so chunks may be waited for. -/
theorem recv_below (c : Dev nD) (e : Fin 3) (j : Fin 4) :
    (levAts L lv : sProp 𝕄) ⊢ MayWait (c : Thread nD τ) (.dma (recvSem e j)) () (owed c 15) :=
  mayWait_owed c _ 15 fun p hp => by
    rw [debts_levels] at hp
    rw [recv_level]
    revert p; decide

/-- The wait for chunk `(e, j)` to arrive. -/
theorem wp_wait_recv (K : Dev nD × Fin 33 → ℕ) (c : Dev nD) (e : Fin 3) (j : Fin 4)
    {sp' : Space} {s' : Shape} {t' : EltTy} {sem : DmaSem sig} (hsem : sem = recvSem e j)
    {src : Memref sig (Dev.tc c : Thread nD τ).2.kind sp' s' t'}
    {hsrc : src.view.WordExact} {hdst : (xgV e j).view.WordExact}
    {α : Type} {Q : α → sProp 𝕄} {k : PUnit → Prog (TpuEff nD τ sig (Elt F) Λ₀ .tc) α} (W : Waits sig Unit) :
    iprop(records m K ∗ levAts L lv ∗ todo c (recvSem e j) ∗ owes (c : Thread nD τ) (owed c 15) W)
      ⊢ iprop(((owes (c : Thread nD τ) (owed c 15) (insert (SemLoc.dma (recvSem e j), ()) W) ∗ closed c (recvSem e j) ∗ xgPts c e j (xgC m c))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sem src (xgV e j) hsrc hdst) k) Q) := by
  rw [← pay_recv m c e j]
  exact wp_wait_x m K c (recvSem e j) (isX_recv e j) hsem ((show (xgV e j).view.dmaCredit = N from rfl).trans (amount_recv e j).symm) 15 (recv_below c e j) W

/-- The wait for the copy of chunk `(e, j)` to have left. -/
theorem wp_wait_send (K : Dev nD × Fin 33 → ℕ) (c : Dev nD) (e : Fin 3) (j : Fin 4)
    {sp' : Space} {s' : Shape} {t' : EltTy} {sem : DmaSem sig} (hsem : sem = sendSem e j)
    {src : Memref sig (Dev.tc c : Thread nD τ).2.kind sp' s' t'}
    {hsrc : src.view.WordExact} {hdst : (xsV e j).view.WordExact}
    {α : Type} {Q : α → sProp 𝕄} {k : PUnit → Prog (TpuEff nD τ sig (Elt F) Λ₀ .tc) α} (W : Waits sig Unit) :
    iprop(records m K ∗ levAts L lv ∗ todo c (sendSem e j) ∗ owes (c : Thread nD τ) (owed c 15) W)
      ⊢ iprop(((owes (c : Thread nD τ) (owed c 15) (insert (SemLoc.dma (sendSem e j), ()) W) ∗ closed c (sendSem e j) ∗ xsPts c e j (xsC m c))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sem src (xsV e j) hsrc hdst) k) Q) := by
  rw [← pay_send m c e j]
  exact wp_wait_x m K c (sendSem e j) (isX_send e j) hsem ((show (xsV e j).view.dmaCredit = N from rfl).trans (amount_send e j).symm) 15 (mayWait_low c _ (send_low e j) 15) W

/-- The wait for the maximum of `bw c e`. -/
theorem wp_wait_arecv (K : Dev nD × Fin 33 → ℕ) (c : Dev nD) (e : Fin 3)
    {sp' : Space} {s' : Shape} {t' : EltTy} {sem : DmaSem sig} (hsem : sem = arecvSem e)
    {src : Memref sig (Dev.tc c : Thread nD τ).2.kind sp' s' t'}
    {hsrc : src.view.WordExact} {hdst : (amV e.succ).view.WordExact}
    {α : Type} {Q : α → sProp 𝕄} {k : PUnit → Prog (TpuEff nD τ sig (Elt F) Λ₀ .tc) α} (W : Waits sig Unit) :
    iprop(records m K ∗ levAts L lv ∗ todo c (arecvSem e) ∗ owes (c : Thread nD τ) (owed c 18) W)
      ⊢ iprop(((owes (c : Thread nD τ) (owed c 18) (insert (SemLoc.dma (arecvSem e), ()) W) ∗ closed c (arecvSem e) ∗ amPts c e.succ fullShare (amC m c))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sem src (amV e.succ) hsrc hdst) k) Q) := by
  rw [← pay_arecv m c e]
  exact wp_wait_x m K c (arecvSem e) (isX_arecv e) hsem ((show (amV e.succ).view.dmaCredit = NA from rfl).trans (amount_arecv e).symm) 18 (mayWait_owed c _ 18 (by intro p hp; exact absurd hp List.not_mem_nil)) W

/-- The wait for the copy of the maximum to `fw c e` to have left. -/
theorem wp_wait_asend (K : Dev nD × Fin 33 → ℕ) (c : Dev nD) (e : Fin 3)
    {sp' : Space} {s' : Shape} {t' : EltTy} {sem : DmaSem sig} (hsem : sem = asendSem e)
    {src : Memref sig (Dev.tc c : Thread nD τ).2.kind sp' s' t'}
    {hsrc : src.view.WordExact} {hdst : (amV 0).view.WordExact}
    {α : Type} {Q : α → sProp 𝕄} {k : PUnit → Prog (TpuEff nD τ sig (Elt F) Λ₀ .tc) α} (W : Waits sig Unit) :
    iprop(records m K ∗ levAts L lv ∗ todo c (asendSem e) ∗ owes (c : Thread nD τ) (owed c 18) W)
      ⊢ iprop(((owes (c : Thread nD τ) (owed c 18) (insert (SemLoc.dma (asendSem e), ()) W) ∗ closed c (asendSem e) ∗ amPts c 0 (third e) (amC m c))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sem src (amV 0) hsrc hdst) k) Q) := by
  rw [← pay_asend m c e]
  exact wp_wait_x m K c (asendSem e) (isX_asend e) hsem ((show (amV 0).view.dmaCredit = NA from rfl).trans (amount_asend e).symm) 18 (mayWait_low c _ (asend_low e) 18) W

end Cert.KernelIdealProof
-- ==== Proof.KernelIdeal.Vals.lean ====
/-
# What the stores leave

The addresses the kernel computes, and the contents of each buffer after the stores that fill it: the narrowed chunks of
`x`, the narrowed `w`, the rows of the product.
-/
module

public import proofs.«01_k».proof.Proof.KernelIdeal.Rules

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Addresses -/

/-- The devices the barrier signals and the copies go to. -/
theorem dev_bar0 (c : Dev nD) : (⟨k0_dev1 c, k0_dev1_lt c⟩ : Dev nD) = fw c 0 := by revert c; decide
theorem dev_bar1 (c : Dev nD) : (⟨k0_dev2 c, k0_dev2_lt c⟩ : Dev nD) = fw c 1 := by revert c; decide
theorem dev_bar2 (c : Dev nD) : (⟨k0_dev3 c, k0_dev3_lt c⟩ : Dev nD) = fw c 2 := by revert c; decide
theorem dev_00 (c : Dev nD) : (⟨k0_dev4 c, k0_dev4_lt c⟩ : Dev nD) = fw c 0 := by revert c; decide
theorem dev_10 (c : Dev nD) : (⟨k0_dev5 c, k0_dev5_lt c⟩ : Dev nD) = fw c 1 := by revert c; decide
theorem dev_20 (c : Dev nD) : (⟨k0_dev6 c, k0_dev6_lt c⟩ : Dev nD) = fw c 2 := by revert c; decide
theorem dev_01 (c : Dev nD) : (⟨k0_dev7 c, k0_dev7_lt c⟩ : Dev nD) = fw c 0 := by revert c; decide
theorem dev_11 (c : Dev nD) : (⟨k0_dev8 c, k0_dev8_lt c⟩ : Dev nD) = fw c 1 := by revert c; decide
theorem dev_21 (c : Dev nD) : (⟨k0_dev9 c, k0_dev9_lt c⟩ : Dev nD) = fw c 2 := by revert c; decide
theorem dev_02 (c : Dev nD) : (⟨k0_dev10 c, k0_dev10_lt c⟩ : Dev nD) = fw c 0 := by revert c; decide
theorem dev_12 (c : Dev nD) : (⟨k0_dev11 c, k0_dev11_lt c⟩ : Dev nD) = fw c 1 := by revert c; decide
theorem dev_22 (c : Dev nD) : (⟨k0_dev12 c, k0_dev12_lt c⟩ : Dev nD) = fw c 2 := by revert c; decide
theorem dev_03 (c : Dev nD) : (⟨k0_dev13 c, k0_dev13_lt c⟩ : Dev nD) = fw c 0 := by revert c; decide
theorem dev_13 (c : Dev nD) : (⟨k0_dev14 c, k0_dev14_lt c⟩ : Dev nD) = fw c 1 := by revert c; decide
theorem dev_23 (c : Dev nD) : (⟨k0_dev15 c, k0_dev15_lt c⟩ : Dev nD) = fw c 2 := by revert c; decide
theorem dev_a0 (c : Dev nD) : (⟨k0_dev16 c, k0_dev16_lt c⟩ : Dev nD) = fw c 0 := by revert c; decide
theorem dev_a1 (c : Dev nD) : (⟨k0_dev17 c, k0_dev17_lt c⟩ : Dev nD) = fw c 1 := by revert c; decide
theorem dev_a2 (c : Dev nD) : (⟨k0_dev18 c, k0_dev18_lt c⟩ : Dev nD) = fw c 2 := by revert c; decide

/-- Where a chunk of `x` is read. -/
theorem off1_eq (c : Dev nD) (i j : Fin 4) :
    k0_off1 c (BitVec.ofNat 32 i.val) (BitVec.ofNat 32 (j.val * 256)) = ![((c.val + i.val) % 4) * 1024 + j.val * 256, 0] := by
  revert c i j; decide

/-- Where the rows of the narrowed `w` are read. -/
theorem off2_eq (c : Dev nD) : k0_off2 c = ![c.val * 1024, 0] := by revert c; decide
theorem off3_eq (c : Dev nD) (e : Fin 3) : k0_off3 c (BitVec.ofNat 32 (e.val + 1)) = ![(bw c e).val * 1024, 0] := by revert c e; decide

/-! ## Narrowed chunks of `x` -/

/-- The staging buffer of `x`, and its slots. -/
abbrev fsM : Memref sig .tc .vmem S2x256x1024 .f32 := Memref.whole cc0_scratch1
theorem fs_inb (s : Fin 2) : ∀ a, (![s.val, 0, 0] : Fin 3 → ℕ) a + S1x256x1024.size a ≤ S2x256x1024.size a := by revert s; decide
abbrev fsR (s : Fin 2) : Rect S2x256x1024 := Rect.unit (s := S2x256x1024) ![s.val, 0, 0] S1x256x1024.size (fs_inb s)
abbrev fsV (s : Fin 2) : Memref sig .tc .vmem S256x1024 .f32 := (fsM.slice (fsR s) (fun _ => rfl)).squeeze S256x1024 squeezes_S1x256x1024_S256x1024

/-- The staging buffer of `w`, and its slots. -/
abbrev wsM : Memref sig .tc .vmem S2x512x2048 .f32 := Memref.whole cc0_scratch3
theorem ws_inb (s : Fin 2) : ∀ a, (![s.val, 0, 0] : Fin 3 → ℕ) a + S1x512x2048.size a ≤ S2x512x2048.size a := by revert s; decide
abbrev wsR (s : Fin 2) : Rect S2x512x2048 := Rect.unit (s := S2x512x2048) ![s.val, 0, 0] S1x512x2048.size (ws_inb s)
abbrev wsV (s : Fin 2) : Memref sig .tc .vmem S512x2048 .f32 := (wsM.slice (wsR s) (fun _ => rfl)).squeeze S512x2048 squeezes_S1x512x2048_S512x2048

/-- Chunk `j` of slab `i` of the send buffer. -/
theorem xr_inb (i j : Fin 4) : ∀ a, (![i.val, j.val * 256, 0] : Fin 3 → ℕ) a + S1x256x1024.size a ≤ S4x1024x1024.size a := by revert i j; decide
abbrev xrR (i j : Fin 4) : Rect S4x1024x1024 := Rect.unit (s := S4x1024x1024) ![i.val, j.val * 256, 0] S1x256x1024.size (xr_inb i j)

/-- The coordinates behind a leading axis of extent one. -/
def tailIdx {n : ℕ} {d : Fin n → ℕ} (y : (⟨n + 1, Matrix.vecCons 1 d⟩ : Shape).Idx) : (⟨n, d⟩ : Shape).Idx := fun a : Fin n => y a.succ

/-- Dropping a leading axis of extent one keeps the other coordinates. -/
theorem reshape_drop {n : ℕ} {d : Fin n → ℕ} (h : (⟨n + 1, Matrix.vecCons 1 d⟩ : Shape).numel = (⟨n, d⟩ : Shape).numel)
    (y : (⟨n + 1, Matrix.vecCons 1 d⟩ : Shape).Idx) : Shape.reshapeEquiv h y = tailIdx y := by
  have hy : y = Shape.reshapeEquiv h.symm (tailIdx y) := by
    refine Eq.trans ?_ (Shape.reshapeEquiv_cons_one h.symm (tailIdx y)).symm
    funext a
    refine Fin.cases ?_ (fun b => rfl) a
    exact Fin.ext (by have : (y 0).val < 1 := (y 0).isLt; show (y 0).val = 0; omega)
  refine (congrArg (Shape.reshapeEquiv h) hy).trans ?_
  exact (Shape.reshapeEquiv_reshapeEquiv _ _ _).trans (Shape.reshapeEquiv_self _ _)

/-- One store into a piece of a buffer leaves there the contents its payload is taken from. -/
theorem piece_stored {κ : Kind} {sp : Space} {s : Shape} {e : EltTy} (v : View sig κ sp s e) (g G : v.ty.Contents (Elt F)) (R : Rect s) (w : R.shape.Idx → Elt F e)
    (hw : ∀ y, w y = v.read (Elt F) G (R.emb y)) : ∀ p ∈ v.setOn R.set, v.writes (Elt F) g [⟨R, w⟩] p = G p := by
  intro p hp
  obtain ⟨y, hy, rfl⟩ := Finset.mem_map.mp hp
  obtain ⟨x, rfl⟩ := R.exists_idx_of_mem hy
  have h := (v.read_writes_cons_emb g R w [] x).trans (hw x)
  exact (cast_bijective _).injective h

/-- Stores that cover a buffer leave the contents their payloads are taken from. -/
theorem pieces_stored {κ : Kind} {sp : Space} {s : Shape} {e : EltTy} (v : View sig κ sp s e) (g : v.ty.Contents (Elt F)) (G : s.Idx → Elt F e) (n : ℕ) (P : Fin n → View.Piece (Elt F) s e)
    (L : List (View.Piece (Elt F) s e)) (h1 : ∀ p ∈ L, ∃ t, p = P t) (h2 : ∀ t, P t ∈ L)
    (hw : ∀ t (y : (P t).1.shape.Idx), (P t).2 y = G ((P t).1.emb y)) (pick : s.Idx → Fin n) (hp : ∀ y, y ∈ (P (pick y)).1.set) : v.read (Elt F) (v.writes (Elt F) g L) = G := by
  funext y
  refine v.read_writes_apply_of_pieces g G L ?_ y ⟨_, h2 (pick y), hp y⟩
  intro p hpL
  obtain ⟨t, rfl⟩ := h1 p hpL
  exact hw t

theorem list8 {α : Type} (P : Fin 8 → α) : (∀ p ∈ [P 7, P 6, P 5, P 4, P 3, P 2, P 1, P 0], ∃ t, p = P t) ∧ ∀ t, P t ∈ [P 7, P 6, P 5, P 4, P 3, P 2, P 1, P 0] := by
  constructor
  · intro p hp
    simp only [List.mem_cons, List.not_mem_nil, or_false] at hp
    rcases hp with h | h | h | h | h | h | h | h <;> exact ⟨_, h⟩
  · intro t; fin_cases t <;> simp
theorem list4 {α : Type} (P : Fin 4 → α) : (∀ p ∈ [P 3, P 2, P 1, P 0], ∃ t, p = P t) ∧ ∀ t, P t ∈ [P 3, P 2, P 1, P 0] := by
  constructor
  · intro p hp
    simp only [List.mem_cons, List.not_mem_nil, or_false] at hp
    rcases hp with h | h | h | h <;> exact ⟨_, h⟩
  · intro t; fin_cases t <;> simp

/-- A slot of the staging buffer of `x`, read after a copy filled it, gives what was copied. -/
theorem fs_read (s : Fin 2) (f : fsM.view.ty.Contents (Elt F)) (X : S256x1024.Idx → Elt F .f32) :
    shapeCast S256x1024 (fsM.view.readAt (Elt F) (fsR s).toLoadRect ((fsV s).view.write (Elt F) f X Finset.univ)) shapeCasts_S1x256x1024_S256x1024 = X :=
  (fsV s).view.read_write_univ f X

/-- A slot of the staging buffer of `w` likewise. -/
theorem ws_read (s : Fin 2) (f : wsM.view.ty.Contents (Elt F)) (X : S512x2048.Idx → Elt F .f32) :
    shapeCast S512x2048 (wsM.view.readAt (Elt F) (wsR s).toLoadRect ((wsV s).view.write (Elt F) f X Finset.univ)) shapeCasts_S1x512x2048_S512x2048 = X :=
  (wsV s).view.read_write_univ f X

/-- What is stored for chunk `j` of slab `i`: the chunk of `x`, narrowed. -/
theorem narrow_x (c : Dev nD) (i j : Fin 4) (s : Fin 2) (f : fsM.view.ty.Contents (Elt F)) {off : Fin 2 → ℕ}
    (h : ∀ a, off a + S256x1024.size a ≤ S4096x1024.size a) (h' : ∀ a, (Rect.unit (s := S4096x1024) off S256x1024.size h).stride a = 1)
    (hoff : off = ![((c.val + i.val) % 4) * 1024 + j.val * 256, 0]) (y : S1x256x1024.Idx) :
    (k0_pay2 (fsM.view.readAt (Elt F) (fsR s).toLoadRect ((fsV s).view.write (Elt F) f
        (ReadAs.same.apply (((Memref.whole main_arg0).slice (Rect.unit (s := S4096x1024) off S256x1024.size h) h').view.read (Elt F) (m ((c : Thread nD τ).loc main_arg0)))) Finset.univ)) : FVec F S1x256x1024 .bf16) y
      = xsC m c ((xrR i j).emb y) := by
  subst hoff
  unfold k0_pay2
  dsimp only
  rw [fs_read]
  show FloatOps.truncf .bf16 bitsLt_bf16_f32 (m ((c : Thread nD τ).loc main_arg0) ((Rect.unit (s := S4096x1024) _ S256x1024.size h).emb (Shape.reshapeEquiv _ y))) = _
  rw [show Shape.reshapeEquiv _ y = (tailIdx (d := ![256, 1024]) y : S256x1024.Idx) from reshape_drop (d := ![256, 1024]) _ y]
  unfold xsC xb
  congr 2
  have h0 : (y 0).val = 0 := by have : (y 0).val < 1 := (y 0).isLt; omega
  funext a
  apply Fin.ext
  fin_cases a
  · show ((c.val + i.val) % 4) * 1024 + j.val * 256 + 1 * (y 1).val = (c.val + (i.val + 1 * (y 0).val)) % 4 * 1024 + (j.val * 256 + 1 * (y 1).val)
    rw [h0]; omega
  · rfl

/-- A chunk of the send buffer after that store. -/
theorem xs_stored (c : Dev nD) (i j : Fin 4) (g : xsM.view.ty.Contents (Elt F)) (w : S1x256x1024.Idx → Elt F .bf16)
    (hw : ∀ y, w y = xsC m c ((xrR i j).emb y)) : ∀ p ∈ xsM.view.setOn (xrR i j).set, xsM.view.writes (Elt F) g [⟨xrR i j, w⟩] p = xsC m c p :=
  piece_stored xsM.view g (xsC m c) (xrR i j) w hw

/-! ## The narrowed `w` -/

theorem wr_inb (t : Fin 8) : ∀ a, (![t.val * 512, 0] : Fin 2 → ℕ) a + S512x2048.size a ≤ S4096x2048.size a := by revert t; decide
/-- Tile `t` of `w`. -/
abbrev wrR (t : Fin 8) : Rect S4096x2048 := Rect.unit (s := S4096x2048) ![t.val * 512, 0] S512x2048.size (wr_inb t)

/-- What is stored for tile `t`: the tile of `w`, narrowed. -/
theorem narrow_w (c : Dev nD) (t : Fin 8) (s : Fin 2) (f : wsM.view.ty.Contents (Elt F)) (h' : ∀ a, (wrR t).stride a = 1) (y : S512x2048.Idx) :
    (k0_pay18 (wsM.view.readAt (Elt F) (wsR s).toLoadRect ((wsV s).view.write (Elt F) f
        (ReadAs.same.apply (((Memref.whole main_arg1).slice (wrR t) h').view.read (Elt F) (m ((c : Thread nD τ).loc main_arg1)))) Finset.univ)) : FVec F S512x2048 .bf16) y
      = wbC m c ((wrR t).emb y) := by
  unfold k0_pay18
  dsimp only
  rw [ws_read]
  refine (congrArg _ (Shape.reshapeEquiv_self _ y)).trans ?_
  rfl

/-- The narrowed `w` after the eight stores. -/
theorem wb_stored (c : Dev nD) (g : wbM.view.ty.Contents (Elt F)) (w : Fin 8 → S512x2048.Idx → Elt F .bf16) (hw : ∀ t y, w t y = wbC m c ((wrR t).emb y)) :
    wbM.view.writes (Elt F) g [⟨wrR 7, w 7⟩, ⟨wrR 6, w 6⟩, ⟨wrR 5, w 5⟩, ⟨wrR 4, w 4⟩, ⟨wrR 3, w 3⟩, ⟨wrR 2, w 2⟩, ⟨wrR 1, w 1⟩, ⟨wrR 0, w 0⟩] = wbC m c := by
  have hL := list8 (fun t : Fin 8 => (⟨wrR t, w t⟩ : View.Piece (Elt F) S4096x2048 .bf16))
  beta_reduce at hL
  refine (View.read_whole (Val := Elt F) cc0_scratch4 _).symm.trans ?_
  refine pieces_stored wbM.view g (wbC m c) 8 (fun t : Fin 8 => (⟨wrR t, w t⟩ : View.Piece (Elt F) S4096x2048 .bf16)) _ hL.1 hL.2 hw
    (fun y => ⟨(y 0).val / 512, by have : (y 0).val < 4096 := (y 0).isLt; omega⟩) (fun y => ?_)
  rw [Rect.mem_set_unit]
  intro a
  have h1 : (y 1).val < 2048 := (y 1).isLt
  fin_cases a
  · exact ⟨by show (y 0).val / 512 * 512 ≤ (y 0).val; omega, by show (y 0).val < (y 0).val / 512 * 512 + 512; omega⟩
  · exact ⟨Nat.zero_le _, by show (y 1).val < 0 + 2048; omega⟩

/-- The same, with the eight payloads apart. -/
theorem wb_filled (c : Dev nD) (g : wbM.view.ty.Contents (Elt F)) (w0 w1 w2 w3 w4 w5 w6 w7 : S512x2048.Idx → Elt F .bf16)
    (h0 : ∀ y, w0 y = wbC m c ((wrR 0).emb y)) (h1 : ∀ y, w1 y = wbC m c ((wrR 1).emb y)) (h2 : ∀ y, w2 y = wbC m c ((wrR 2).emb y)) (h3 : ∀ y, w3 y = wbC m c ((wrR 3).emb y))
    (h4 : ∀ y, w4 y = wbC m c ((wrR 4).emb y)) (h5 : ∀ y, w5 y = wbC m c ((wrR 5).emb y)) (h6 : ∀ y, w6 y = wbC m c ((wrR 6).emb y)) (h7 : ∀ y, w7 y = wbC m c ((wrR 7).emb y)) :
    wbM.view.writes (Elt F) g [⟨wrR 7, w7⟩, ⟨wrR 6, w6⟩, ⟨wrR 5, w5⟩, ⟨wrR 4, w4⟩, ⟨wrR 3, w3⟩, ⟨wrR 2, w2⟩, ⟨wrR 1, w1⟩, ⟨wrR 0, w0⟩] = wbC m c :=
  wb_stored m c g ![w0, w1, w2, w3, w4, w5, w6, w7] (by intro t; fin_cases t; exacts [h0, h1, h2, h3, h4, h5, h6, h7])

/-! ## The operands of the products -/

/-- The own chunk, loaded. -/
theorem load_own (c : Dev nD) (j : Fin 4) : xsM.view.readAt (Elt F) (xrR 0 j).toLoadRect (xsC m c) = opA m c c j := by
  funext y
  have h0 : (y 0).val = 0 := by have : (y 0).val < 1 := (y 0).isLt; omega
  show xb m c _ _ _ = xb m c _ _ _
  congr 1
  · exact Fin.ext (by show (c.val + (0 + 1 * (y 0).val)) % 4 = c.val; have : c.val < 4 := c.isLt; omega)
  · exact Fin.ext (by show j.val * 256 + 1 * (y 1).val = j.val * 256 + (y 1).val; omega)
  · exact Fin.ext (by show 0 + 1 * (y 2).val = (y 2).val; omega)

/-- A received chunk, loaded. -/
theorem load_recv (c : Dev nD) (e : Fin 3) (j : Fin 4) : xgM.view.readAt (Elt F) (xgR e j).toLoadRect (xgC m c) = opA m (bw c e) c j := by
  funext y
  have h0 : (y 0).val = 0 := by have : (y 0).val < 1 := (y 0).isLt; omega
  show xb m (bw c ((xgR e j).emb y 0)) c ((xgR e j).emb y 1) ((xgR e j).emb y 2) = xb m (bw c e) c _ _
  congr 1
  · congr 1; exact Fin.ext (by show e.val + 1 * (y 0).val = e.val; omega)
  · exact Fin.ext (by show j.val * 256 + 1 * (y 1).val = j.val * 256 + (y 1).val; omega)
  · exact Fin.ext (by show 0 + 1 * (y 2).val = (y 2).val; omega)

/-- A block of rows of the narrowed `w`, loaded. -/
theorem load_w (c b : Dev nD) {off : Fin 2 → ℕ} (h : ∀ a, off a + S1024x2048.size a ≤ S4096x2048.size a) (hoff : off = ![b.val * 1024, 0]) :
    wbM.view.readAt (Elt F) (Rect.unit (s := S4096x2048) off S1024x2048.size h).toLoadRect (wbC m c) = opB m c b := by
  subst hoff
  funext y
  show wbC m c _ = wbC m c _
  congr 1
  funext a
  apply Fin.ext
  fin_cases a
  · show b.val * 1024 + 1 * (y 0).val = b.val * 1024 + (y 0).val; omega
  · show 0 + 1 * (y 1).val = (y 1).val; omega

/-! ## The rows of the product -/

theorem or_inb (j : Fin 4) : ∀ a, (![j.val * 256, 0] : Fin 2 → ℕ) a + S256x2048.size a ≤ S1024x2048.size a := by revert j; decide
/-- Chunk `j` of the rows. -/
abbrev orR (j : Fin 4) : Rect S1024x2048 := Rect.unit (s := S1024x2048) ![j.val * 256, 0] S256x2048.size (or_inb j)

/-- The rows after the four stores. -/
theorem out_stored (c : Dev nD) (g : outM.view.ty.Contents (Elt F)) :
    outM.view.writes (Elt F) g [⟨orR 3, chunk m c 3⟩, ⟨orR 2, chunk m c 2⟩, ⟨orR 1, chunk m c 1⟩, ⟨orR 0, chunk m c 0⟩] = yC m c := by
  have hL := list4 (fun t : Fin 4 => (⟨orR t, chunk m c t⟩ : View.Piece (Elt F) S1024x2048 .f32))
  beta_reduce at hL
  refine (View.read_whole (Val := Elt F) cc0_stg0_0 _).symm.trans ?_
  refine pieces_stored outM.view g (yC m c) 4 (fun t : Fin 4 => (⟨orR t, chunk m c t⟩ : View.Piece (Elt F) S1024x2048 .f32)) _ hL.1 hL.2 (fun t x => ?_)
    (fun y => ⟨(y 0).val / 256, by have : (y 0).val < 1024 := (y 0).isLt; omega⟩) (fun y => ?_)
  · have hx : (x 0).val < 256 := (x 0).isLt
    show chunk m c t x = chunk m c _ _
    have ht : t = ⟨(t.val * 256 + 1 * (x 0).val) / 256, by have := t.isLt; omega⟩ := Fin.ext (by show t.val = (t.val * 256 + 1 * (x 0).val) / 256; omega)
    refine Eq.trans (congrArg (chunk m c t) ?_) (congrFun (congrArg (chunk m c) ht) _)
    funext a
    apply Fin.ext
    fin_cases a
    · show (x 0).val = (t.val * 256 + 1 * (x 0).val) % 256; omega
    · show (x 1).val = 0 + 1 * (x 1).val; omega
  · rw [Rect.mem_set_unit]
    intro a
    have h1 : (y 1).val < 2048 := (y 1).isLt
    fin_cases a
    · exact ⟨by show (y 0).val / 256 * 256 ≤ (y 0).val; omega, by show (y 0).val < (y 0).val / 256 * 256 + 256; omega⟩
    · exact ⟨Nat.zero_le _, by show (y 1).val < 0 + 2048; omega⟩

/-! ## The maxima -/

/-- Row 0 of the maxima after its store. -/
theorem am_stored (c : Dev nD) (g : amM.view.ty.Contents (Elt F)) (v : F .f32) (hv : v = mx m c) :
    ∀ p ∈ amM.view.setOn (amR 0).set, amM.view.writes (Elt F) g [⟨amR 0, k0_pay50 v⟩] p = amC m c p := by
  subst hv
  refine piece_stored amM.view g (amC m c) (amR 0) _ (fun x => ?_)
  have h0 : (x 0).val = 0 := by have : (x 0).val < 1 := (x 0).isLt; omega
  show mx m c = mx m _
  exact congrArg (mx m) (Fin.ext (by show c.val = (c.val + (4 - (0 + 1 * (x 0).val))) % 4; have : c.val < 4 := c.isLt; omega))

/-! ## What the stores carry -/

/-- The four chunks of the rows, as the program computes each from its eight operands. -/
theorem chunk0_of (c : Dev nD) {x0 x1 x2 x3 : Vec F S1x256x1024 .bf16} {w0 w1 w2 w3 : Vec F S1024x2048 .bf16}
    (hx0 : x0 = opA m c c 0) (hx1 : x1 = opA m (bw c 0) c 0) (hx2 : x2 = opA m (bw c 1) c 0) (hx3 : x3 = opA m (bw c 2) c 0)
    (hw0 : w0 = opB m c c) (hw1 : w1 = opB m c (bw c 0)) (hw2 : w2 = opB m c (bw c 1)) (hw3 : w3 = opB m c (bw c 2)) :
    k0_pay31 (k0_pay30 (k0_pay29 (k0_pay28 x0 w0) x1 w1) x2 w2) x3 w3 = chunk m c 0
      ∧ k0_pay32 (k0_pay30 (k0_pay29 (k0_pay28 x0 w0) x1 w1) x2 w2) x3 w3 = mxFirst m c := by
  subst hx0 hx1 hx2 hx3 hw0 hw1 hw2 hw3; exact ⟨rfl, rfl⟩
theorem chunk1_of (c : Dev nD) {x0 x1 x2 x3 : Vec F S1x256x1024 .bf16} {w0 w1 w2 w3 : Vec F S1024x2048 .bf16}
    (hx0 : x0 = opA m c c 1) (hx1 : x1 = opA m (bw c 0) c 1) (hx2 : x2 = opA m (bw c 1) c 1) (hx3 : x3 = opA m (bw c 2) c 1)
    (hw0 : w0 = opB m c c) (hw1 : w1 = opB m c (bw c 0)) (hw2 : w2 = opB m c (bw c 1)) (hw3 : w3 = opB m c (bw c 2)) :
    k0_pay37 (k0_pay36 (k0_pay34 (k0_pay33 x0) w0) (k0_pay35 x1) w1 x2 w2) x3 w3 = chunk m c 1
      ∧ ∀ v : F .f32, k0_pay38 v (k0_pay36 (k0_pay34 (k0_pay33 x0) w0) (k0_pay35 x1) w1 x2 w2) x3 w3 = mxNext m c 1 v := by
  subst hx0 hx1 hx2 hx3 hw0 hw1 hw2 hw3; exact ⟨rfl, fun _ => rfl⟩
theorem chunk2_of (c : Dev nD) {x0 x1 x2 x3 : Vec F S1x256x1024 .bf16} {w0 w1 w2 w3 : Vec F S1024x2048 .bf16}
    (hx0 : x0 = opA m c c 2) (hx1 : x1 = opA m (bw c 0) c 2) (hx2 : x2 = opA m (bw c 1) c 2) (hx3 : x3 = opA m (bw c 2) c 2)
    (hw0 : w0 = opB m c c) (hw1 : w1 = opB m c (bw c 0)) (hw2 : w2 = opB m c (bw c 1)) (hw3 : w3 = opB m c (bw c 2)) :
    k0_pay43 (k0_pay41 (k0_pay40 (k0_pay39 x0 w0) x1 w1) x2 w2) (k0_pay42 x3) w3 = chunk m c 2
      ∧ ∀ v : F .f32, k0_pay44 v (k0_pay41 (k0_pay40 (k0_pay39 x0 w0) x1 w1) x2 w2) (k0_pay42 x3) w3 = mxNext m c 2 v := by
  subst hx0 hx1 hx2 hx3 hw0 hw1 hw2 hw3; exact ⟨rfl, fun _ => rfl⟩
theorem chunk3_of (c : Dev nD) {x0 x1 x2 x3 : Vec F S1x256x1024 .bf16} {w0 w1 w2 w3 : Vec F S1024x2048 .bf16}
    (hx0 : x0 = opA m c c 3) (hx1 : x1 = opA m (bw c 0) c 3) (hx2 : x2 = opA m (bw c 1) c 3) (hx3 : x3 = opA m (bw c 2) c 3)
    (hw0 : w0 = opB m c c) (hw1 : w1 = opB m c (bw c 0)) (hw2 : w2 = opB m c (bw c 1)) (hw3 : w3 = opB m c (bw c 2)) :
    k0_pay48 (k0_pay47 (k0_pay46 (k0_pay45 x0 w0) x1 w1) x2 w2) x3 w3 = chunk m c 3
      ∧ ∀ v : F .f32, k0_pay49 v (k0_pay47 (k0_pay46 (k0_pay45 x0 w0) x1 w1) x2 w2) x3 w3 = mxNext m c 3 v := by
  subst hx0 hx1 hx2 hx3 hw0 hw1 hw2 hw3; exact ⟨rfl, fun _ => rfl⟩

/-- The rows after the four stores, the payloads apart. -/
theorem out_filled (c : Dev nD) (g : outM.view.ty.Contents (Elt F)) (v0 v1 v2 v3 : S256x2048.Idx → Elt F .f32)
    (h0 : v0 = chunk m c 0) (h1 : v1 = chunk m c 1) (h2 : v2 = chunk m c 2) (h3 : v3 = chunk m c 3) :
    outM.view.writes (Elt F) g [⟨orR 3, v3⟩, ⟨orR 2, v2⟩, ⟨orR 1, v1⟩, ⟨orR 0, v0⟩] = yC m c := by
  subst h0 h1 h2 h3; exact out_stored m c g

/-- The running maximum after the four chunks. -/
theorem mx_of (c : Dev nD) {v0 v1 v2 v3 : F .f32} (h0 : v0 = mxFirst m c) (h1 : v1 = mxNext m c 1 v0) (h2 : v2 = mxNext m c 2 v1) (h3 : v3 = mxNext m c 3 v2) :
    v3 = mx m c := by
  subst h0 h1 h2 h3; rfl

/-- The result, stored over the rows. -/
theorem out_final (c : Dev nD) (g : outM.view.ty.Contents (Elt F)) (h : ∀ a, (![0, 0] : Fin 2 → ℕ) a + S1024x2048.size a ≤ S1024x2048.size a)
    (a : Vec F S4x1x128 .f32) (y : Vec F S1024x2048 .f32) (ha : a = amC m c) (hy : y = yC m c) :
    outM.view.writes (Elt F) g [⟨Rect.unit (s := S1024x2048) ![0, 0] S1024x2048.size h, k0_pay1 a y⟩] = outC m c := by
  subst ha hy
  refine (View.read_whole (Val := Elt F) cc0_stg0_0 _).symm.trans ?_
  refine pieces_stored outM.view g (outC m c) 1 (fun _ => (⟨Rect.unit (s := S1024x2048) ![0, 0] S1024x2048.size h, k0_pay1 (amC m c) (yC m c)⟩ : View.Piece (Elt F) S1024x2048 .f32)) _
    (fun p hp => ⟨0, List.mem_singleton.mp hp⟩) (fun t => List.mem_singleton.mpr rfl) (fun t x => ?_) (fun _ => 0) (fun y => ?_)
  · show outC m c x = outC m c _
    congr 1
    funext a
    apply Fin.ext
    fin_cases a
    · show (x 0).val = 0 + 1 * (x 0).val; omega
    · show (x 1).val = 0 + 1 * (x 1).val; omega
  · rw [Rect.mem_set_unit]
    intro a
    have h0 : (y 0).val < 1024 := (y 0).isLt
    have h1 : (y 1).val < 2048 := (y 1).isLt
    fin_cases a
    · exact ⟨Nat.zero_le _, by show (y 0).val < 0 + 1024; omega⟩
    · exact ⟨Nat.zero_le _, by show (y 1).val < 0 + 2048; omega⟩

end Cert.KernelIdealProof
-- ==== Proof.KernelIdeal.Pieces.lean ====
/-
# The buffers in pieces

Each scratch buffer is held whole outside the body and in rectangles inside it; here is how the one becomes the other.
-/
module

public import proofs.«01_k».proof.Proof.KernelIdeal.Vals
public import Idealize.ShloMosaic.Lib.Ring

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- Pieces that every element lies in exactly one of: disjoint, and together the whole buffer. -/
theorem pieces_of_pick {T : Type} [Fintype T] [DecidableEq T] (b : Ref sig .tc) (R : T → Finset b.ty.shape.Idx) (pick : b.ty.shape.Idx → T) (h : ∀ t y, y ∈ R t ↔ pick y = t) :
    (∀ t t', t ≠ t' → Disjoint ((Memref.whole b).view.setOn (R t)) ((Memref.whole b).view.setOn (R t')))
      ∧ (Finset.univ.biUnion fun t => (Memref.whole b).view.setOn (R t)) = Finset.univ := by
  have hm : ∀ t (y : b.ty.shape.Idx), y ∈ (Memref.whole b).view.setOn (R t) ↔ pick y = t := fun t y => (View.mem_setOn (v := (Memref.whole b).view) (M := R t) (x := y)).trans (h t y)
  refine ⟨fun t t' ht => Finset.disjoint_left.mpr fun y hy hy' => ht (((hm t y).mp hy).symm.trans ((hm t' y).mp hy')), ?_⟩
  exact Finset.eq_univ_iff_forall.mpr fun y => Finset.mem_biUnion.mpr ⟨pick y, Finset.mem_univ _, (hm _ y).mpr rfl⟩

/-- A buffer held whole at some contents gives its pieces, and the pieces, whatever they hold, give the buffer back. -/
theorem pieces_iff {T : Type} [Fintype T] [DecidableEq T] (c : Dev nD) (b : Ref sig .tc) (R : T → Finset b.ty.shape.Idx) (pick : b.ty.shape.Idx → T)
    (h : ∀ t y, y ∈ R t ↔ pick y = t) :
    (iprop(∃ f, (Memref.whole b).view.loc (c : Thread nD τ) ↦{fullShare} f) : sProp 𝕄)
      ⊣⊢ bigSep Finset.univ fun t => iprop(∃ f, (Memref.whole b).view.loc (c : Thread nD τ) ↦[(Memref.whole b).view.setOn (R t)]{fullShare} f) := by
  obtain ⟨hd, hc⟩ := pieces_of_pick b R pick h
  refine ⟨?_, ?_⟩
  · refine exists_elim fun f => ?_
    have hb := Entails.of_eq (Ring.pointsTo_blocks (Val := Elt F) (Name := ℕ) (U := UU) (Lvl := ℕ) (Ix := Unit) (ℓ := (Memref.whole b).view.loc (c : Thread nD τ)) _ hd hc (q := fullShare) f)
    refine hb.trans (bigSep_mono fun t _ => ?_)
    exact exists_intro (Φ := fun f => ((Memref.whole b).view.loc (c : Thread nD τ) ↦[(Memref.whole b).view.setOn (R t)]{fullShare} f : sProp 𝕄)) f
  · exact Ring.pointsTo_blocks_join_exists _ hd hc (fun _ => Classical.arbitrary _)

/-- The chunks of the send buffer, of the gather buffer, and the rows of the maxima. -/
theorem xr_pick (t : Fin 4 × Fin 4) (y : S4x1024x1024.Idx) :
    y ∈ (xrR t.1 t.2).set ↔ ((⟨(y 0).val, (y 0).isLt⟩, ⟨(y 1).val / 256, by have : (y 1).val < 1024 := (y 1).isLt; omega⟩) : Fin 4 × Fin 4) = t := by
  rw [Rect.mem_set_unit]
  obtain ⟨i, j⟩ := t
  have h1 : (y 1).val < 1024 := (y 1).isLt
  have h2 : (y 2).val < 1024 := (y 2).isLt
  constructor
  · intro h
    have a0 := h 0
    have a1 := h 1
    have b0 : i.val ≤ (y 0).val ∧ (y 0).val < i.val + 1 := a0
    have b1 : j.val * 256 ≤ (y 1).val ∧ (y 1).val < j.val * 256 + 256 := a1
    exact Prod.ext (Fin.ext (by show (y 0).val = i.val; omega)) (Fin.ext (by show (y 1).val / 256 = j.val; omega))
  · intro h a
    have b0 : (y 0).val = i.val := congrArg (fun t => t.1.val) h
    have b1 : (y 1).val / 256 = j.val := congrArg (fun t => t.2.val) h
    fin_cases a
    · show i.val ≤ (y 0).val ∧ (y 0).val < i.val + 1; omega
    · show j.val * 256 ≤ (y 1).val ∧ (y 1).val < j.val * 256 + 256; omega
    · show 0 ≤ (y 2).val ∧ (y 2).val < 0 + 1024; omega
theorem xg_pick (t : Fin 3 × Fin 4) (y : S3x1024x1024.Idx) :
    y ∈ (xgR t.1 t.2).set ↔ ((⟨(y 0).val, (y 0).isLt⟩, ⟨(y 1).val / 256, by have : (y 1).val < 1024 := (y 1).isLt; omega⟩) : Fin 3 × Fin 4) = t := by
  rw [Rect.mem_set_unit]
  obtain ⟨i, j⟩ := t
  have h1 : (y 1).val < 1024 := (y 1).isLt
  have h2 : (y 2).val < 1024 := (y 2).isLt
  constructor
  · intro h
    have a0 := h 0
    have a1 := h 1
    have b0 : i.val ≤ (y 0).val ∧ (y 0).val < i.val + 1 := a0
    have b1 : j.val * 256 ≤ (y 1).val ∧ (y 1).val < j.val * 256 + 256 := a1
    exact Prod.ext (Fin.ext (by show (y 0).val = i.val; omega)) (Fin.ext (by show (y 1).val / 256 = j.val; omega))
  · intro h a
    have b0 : (y 0).val = i.val := congrArg (fun t => t.1.val) h
    have b1 : (y 1).val / 256 = j.val := congrArg (fun t => t.2.val) h
    fin_cases a
    · show i.val ≤ (y 0).val ∧ (y 0).val < i.val + 1; omega
    · show j.val * 256 ≤ (y 1).val ∧ (y 1).val < j.val * 256 + 256; omega
    · show 0 ≤ (y 2).val ∧ (y 2).val < 0 + 1024; omega

/-- Rectangles that take one index of the leading axis and all of the others. -/
theorem lead_pick {n p q : ℕ} (t : Fin n) (h : ∀ a, (![t.val, 0, 0] : Fin 3 → ℕ) a + (![1, p, q] : Fin 3 → ℕ) a ≤ (![n, p, q] : Fin 3 → ℕ) a) (y : (⟨3, ![n, p, q]⟩ : Shape).Idx) :
    y ∈ (Rect.unit (s := (⟨3, ![n, p, q]⟩ : Shape)) ![t.val, 0, 0] ![1, p, q] h).set ↔ (⟨(y 0).val, (y 0).isLt⟩ : Fin n) = t := by
  rw [Rect.mem_set_unit]
  have h1 : (y 1).val < p := (y 1).isLt
  have h2 : (y 2).val < q := (y 2).isLt
  constructor
  · intro h
    have b0 : t.val ≤ (y 0).val ∧ (y 0).val < t.val + 1 := h 0
    exact Fin.ext (by show (y 0).val = t.val; omega)
  · intro h a
    have b0 : (y 0).val = t.val := congrArg Fin.val h
    fin_cases a
    · show t.val ≤ (y 0).val ∧ (y 0).val < t.val + 1; omega
    · show 0 ≤ (y 1).val ∧ (y 1).val < 0 + p; omega
    · show 0 ≤ (y 2).val ∧ (y 2).val < 0 + q; omega

/-- Finite families, spelt out. -/
theorem two (Φ : Fin 2 → sProp 𝕄) : bigSep Finset.univ Φ = iprop(Φ 0 ∗ Φ 1) := bigSep_univ_eq_bigSepL [0, 1] (by decide) (by decide) Φ
theorem three (Φ : Fin 3 → sProp 𝕄) : bigSep Finset.univ Φ = iprop(Φ 0 ∗ Φ 1 ∗ Φ 2) := bigSep_univ_eq_bigSepL [0, 1, 2] (by decide) (by decide) Φ
theorem four (Φ : Fin 4 → sProp 𝕄) : bigSep Finset.univ Φ = iprop(Φ 0 ∗ Φ 1 ∗ Φ 2 ∗ Φ 3) := bigSep_univ_eq_bigSepL [0, 1, 2, 3] (by decide) (by decide) Φ
theorem twelve (Φ : Fin 3 × Fin 4 → sProp 𝕄) : bigSep Finset.univ Φ
    = iprop(Φ (0, 0) ∗ Φ (1, 0) ∗ Φ (2, 0) ∗ Φ (0, 1) ∗ Φ (1, 1) ∗ Φ (2, 1) ∗ Φ (0, 2) ∗ Φ (1, 2) ∗ Φ (2, 2) ∗ Φ (0, 3) ∗ Φ (1, 3) ∗ Φ (2, 3)) :=
  bigSep_univ_eq_bigSepL [(0, 0), (1, 0), (2, 0), (0, 1), (1, 1), (2, 1), (0, 2), (1, 2), (2, 2), (0, 3), (1, 3), (2, 3)] (by decide) (by decide) Φ

/-- Row 0 of the maxima in thirds and the other rows, all at one contents, make the buffer. -/
theorem am_join (c : Dev nD) (f : Buf (Elt F) (amM.view.loc (c : Thread nD τ))) :
    iprop(amPts c 0 (third 0) f ∗ amPts c 0 (third 1) f ∗ amPts c 0 (third 2) f ∗ amPts c 1 fullShare f ∗ amPts c 2 fullShare f ∗ amPts c 3 fullShare f)
      ⊢ (amM.view.loc (c : Thread nD τ) ↦{fullShare} f : sProp 𝕄) := by
  obtain ⟨hd, hc⟩ := pieces_of_pick (T := Fin 4) cc0_scratch5 (fun t => (amR t).set) (fun y => ⟨(y 0).val, (y 0).isLt⟩) (fun t y => lead_pick (n := 4) (p := 1) (q := 128) t _ y)
  refine .trans ?_ (Entails.of_eq (Ring.pointsTo_blocks (Val := Elt F) (Name := ℕ) (U := UU) (Lvl := ℕ) (Ix := Unit) (ℓ := amM.view.loc (c : Thread nD τ)) _ hd hc (q := fullShare) f).symm)
  refine .trans ?_ (Entails.of_eq (four (fun t : Fin 4 => amM.view.loc (c : Thread nD τ) ↦[amM.view.setOn (amR t).set]{fullShare} f)).symm)
  iintro ⟨H0, H1, H2, H3, H4, H5⟩
  unfold amPts third
  ihave H12 := (pointsTo_share (PosShare.mem_left_op_right fullShare.right)).2 $$ [H1 H2]
  · isplitl [H1]; · iexact H1
    iexact H2
  ihave H012 := (pointsTo_share (PosShare.mem_left_op_right fullShare)).2 $$ [H0 H12]
  · isplitl [H0]; · iexact H0
    iexact H12
  isplitl [H012]; · iexact H012
  isplitl [H3]; · iexact H3
  isplitl [H4]; · iexact H4
  iexact H5

/-- Row 0 of the maxima, in thirds. -/
theorem am_thirds (c : Dev nD) (f : Buf (Elt F) (amM.view.loc (c : Thread nD τ))) :
    (amPts c 0 fullShare f : sProp 𝕄) ⊢ iprop(amPts c 0 (third 0) f ∗ amPts c 0 (third 1) f ∗ amPts c 0 (third 2) f) := by
  unfold amPts third
  iintro H
  ihave H' := (pointsTo_share (PosShare.mem_left_op_right fullShare)).1 $$ H
  icases H' with ⟨H0, H⟩
  ihave H' := (pointsTo_share (PosShare.mem_left_op_right fullShare.right)).1 $$ H
  icases H' with ⟨H1, H2⟩
  isplitl [H0]; · iexact H0
  isplitl [H1]; · iexact H1
  iexact H2

/-- All of the maxima, loaded; the rows, loaded. -/
theorem load_am (c : Dev nD) (h : ∀ a, (![0, 0, 0] : Fin 3 → ℕ) a + S4x1x128.size a ≤ S4x1x128.size a) (f : amM.view.ty.Contents (Elt F)) :
    amM.view.readAt (Elt F) (Rect.unit (s := S4x1x128) ![0, 0, 0] S4x1x128.size h).toLoadRect f = f := by
  funext y
  show f _ = f y
  congr 1
  funext a
  exact Fin.ext (by fin_cases a <;> (show 0 + 1 * _ = _; omega))
theorem load_out (c : Dev nD) (h : ∀ a, (![0, 0] : Fin 2 → ℕ) a + S1024x2048.size a ≤ S1024x2048.size a) (f : outM.view.ty.Contents (Elt F)) :
    outM.view.readAt (Elt F) (Rect.unit (s := S1024x2048) ![0, 0] S1024x2048.size h).toLoadRect f = f := by
  funext y
  show f _ = f y
  congr 1
  funext a
  exact Fin.ext (by fin_cases a <;> (show 0 + 1 * _ = _; omega))

end Cert.KernelIdealProof
-- ==== Proof.KernelIdeal.Body.lean ====
/-
# The kernel's body on one device

One run of the whole body, from the pieces the launch hands a device to the rows it leaves.
-/
module

public import proofs.«01_k».proof.Proof.KernelIdeal.Send
public import proofs.«01_k».proof.Proof.KernelIdeal.Pieces
public import Idealize.ShloMosaic.Lib.SparseCore.ProtocolKit

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The pieces a device keeps to itself -/

/-- Chunk `j` of the device's own slab of the send buffer; a slot of either staging buffer. -/
def xoPts (c : Dev nD) (j : Fin 4) (f : Buf (Elt F) (xsM.view.loc (c : Thread nD τ))) : sProp 𝕄 :=
  xsM.view.loc (c : Thread nD τ) ↦[xsM.view.setOn (xrR 0 j).set]{fullShare} f
def fsPts (c : Dev nD) (s : Fin 2) (f : Buf (Elt F) (fsM.view.loc (c : Thread nD τ))) : sProp 𝕄 :=
  fsM.view.loc (c : Thread nD τ) ↦[fsM.view.setOn (fsR s).set]{fullShare} f
def wsPts (c : Dev nD) (s : Fin 2) (f : Buf (Elt F) (wsM.view.loc (c : Thread nD τ))) : sProp 𝕄 :=
  wsM.view.loc (c : Thread nD τ) ↦[wsM.view.setOn (wsR s).set]{fullShare} f

/-- The device's arrays, each as two halves of a share, for two copies at a time. -/
def argPts (c : Dev nD) : sProp 𝕄 :=
  iprop(((Memref.whole main_arg0).view.loc (c : Thread nD τ) ↦{fullShare.left} m ((c : Thread nD τ).loc main_arg0))
    ∗ ((Memref.whole main_arg0).view.loc (c : Thread nD τ) ↦{fullShare.right} m ((c : Thread nD τ).loc main_arg0))
    ∗ ((Memref.whole main_arg1).view.loc (c : Thread nD τ) ↦{fullShare.left} m ((c : Thread nD τ).loc main_arg1))
    ∗ ((Memref.whole main_arg1).view.loc (c : Thread nD τ) ↦{fullShare.right} m ((c : Thread nD τ).loc main_arg1)))

/-- A piece that was stored, restated by the contents it then has. -/
theorem xs_restate (c : Dev nD) (e : Fin 3) (j : Fin 4) (g : Buf (Elt F) (xsM.view.loc (c : Thread nD τ))) :
    (xsM.view.loc (c : Thread nD τ) ↦[xsM.view.setOn (xsR e j).set]{fullShare} g : sProp 𝕄)
      ⊢ iprop(⌜∀ p ∈ xsM.view.setOn (xsR e j).set, g p = xsC m c p⌝ -∗ xsPts c e j (xsC m c)) := by
  unfold xsPts; iintro H %h; iapply (Entails.of_eq (pointsTo_congr h)); iexact H
theorem xo_restate (c : Dev nD) (j : Fin 4) (g : Buf (Elt F) (xsM.view.loc (c : Thread nD τ))) :
    (xsM.view.loc (c : Thread nD τ) ↦[xsM.view.setOn (xrR 0 j).set]{fullShare} g : sProp 𝕄)
      ⊢ iprop(⌜∀ p ∈ xsM.view.setOn (xrR 0 j).set, g p = xsC m c p⌝ -∗ xoPts c j (xsC m c)) := by
  unfold xoPts; iintro H %h; iapply (Entails.of_eq (pointsTo_congr h)); iexact H
theorem wb_restate (c : Dev nD) (g : Buf (Elt F) (wbM.view.loc (c : Thread nD τ))) :
    (wbM.view.loc (c : Thread nD τ) ↦{fullShare} g : sProp 𝕄)
      ⊢ iprop(⌜g = wbC m c⌝ -∗ wbM.view.loc (c : Thread nD τ) ↦{fullShare} wbC m c) := by
  iintro H %h; subst h; iexact H
theorem out_restate (c : Dev nD) (g : Buf (Elt F) (outM.view.loc (c : Thread nD τ))) :
    (outM.view.loc (c : Thread nD τ) ↦{fullShare} g : sProp 𝕄)
      ⊢ iprop(⌜g = yC m c⌝ -∗ outM.view.loc (c : Thread nD τ) ↦{fullShare} yC m c) := by
  iintro H %h; subst h; iexact H
theorem out_fin_restate (c : Dev nD) (g : Buf (Elt F) (outM.view.loc (c : Thread nD τ))) :
    (outM.view.loc (c : Thread nD τ) ↦{fullShare} g : sProp 𝕄)
      ⊢ iprop(⌜g = outC m c⌝ -∗ outM.view.loc (c : Thread nD τ) ↦{fullShare} outC m c) := by
  iintro H %h; subst h; iexact H
theorem am_restate (c : Dev nD) (g : Buf (Elt F) (amM.view.loc (c : Thread nD τ))) :
    (amM.view.loc (c : Thread nD τ) ↦[amM.view.setOn (amR 0).set]{fullShare} g : sProp 𝕄)
      ⊢ iprop(⌜∀ p ∈ amM.view.setOn (amR 0).set, g p = amC m c p⌝ -∗ amPts c 0 fullShare (amC m c)) := by
  unfold amPts; iintro H %h; iapply (Entails.of_eq (pointsTo_congr h)); iexact H

/-- What the body starts from on device `c`. -/
def bodyPre (K : Dev nD × Fin 33 → ℕ) (c : Dev nD) (W : Waits sig Unit) : sProp 𝕄 :=
  iprop(
    owes (c : Thread nD τ) (owed c 0) W ∗ levAts L lv ∗ records m K ∗ dutyTok ER (barCell (fw c 0)) 0 (0 : Fin 3) ∗ dutyTok ER (barCell (fw c 1)) 0 (1 : Fin 3) ∗
    dutyTok ER (barCell (fw c 2)) 0 (2 : Fin 3) ∗ ownLanding c (Fin.rev 0) ∗ ownLanding c (Fin.rev 1) ∗ ownLanding c (Fin.rev 2) ∗ cred (tallyAt (barCell c) () 3) ∗
    atPos ER (barCell c) 0 ∅ 0 ∗ argPts m c ∗ sendKit c 0 0 ∗ sendKit c 1 0 ∗ sendKit c 2 0 ∗ sendKit c 0 1 ∗ sendKit c 1 1 ∗ sendKit c 2 1 ∗ sendKit c 0 2 ∗ sendKit c 1 2 ∗
    sendKit c 2 2 ∗ sendKit c 0 3 ∗ sendKit c 1 3 ∗ sendKit c 2 3 ∗ rowKit c 0 ∗ rowKit c 1 ∗ rowKit c 2 ∗ todo c (recvSem 0 0) ∗ todo c (recvSem 1 0) ∗
    todo c (recvSem 2 0) ∗ todo c (recvSem 0 1) ∗ todo c (recvSem 1 1) ∗ todo c (recvSem 2 1) ∗ todo c (recvSem 0 2) ∗ todo c (recvSem 1 2) ∗ todo c (recvSem 2 2) ∗
    todo c (recvSem 0 3) ∗ todo c (recvSem 1 3) ∗ todo c (recvSem 2 3) ∗ todo c (arecvSem 0) ∗ todo c (arecvSem 1) ∗ todo c (arecvSem 2) ∗ (∃ f, xsPts c 0 0 f) ∗
    (∃ f, xsPts c 1 0 f) ∗ (∃ f, xsPts c 2 0 f) ∗ (∃ f, xsPts c 0 1 f) ∗ (∃ f, xsPts c 1 1 f) ∗ (∃ f, xsPts c 2 1 f) ∗ (∃ f, xsPts c 0 2 f) ∗ (∃ f, xsPts c 1 2 f) ∗
    (∃ f, xsPts c 2 2 f) ∗ (∃ f, xsPts c 0 3 f) ∗ (∃ f, xsPts c 1 3 f) ∗ (∃ f, xsPts c 2 3 f) ∗ (∃ f, xoPts c 0 f) ∗ (∃ f, xoPts c 1 f) ∗ (∃ f, xoPts c 2 f) ∗
    (∃ f, xoPts c 3 f) ∗ (∃ f, amM.view.loc (c : Thread nD τ) ↦[amM.view.setOn (amR 0).set]{fullShare} f) ∗ (∃ f, fsPts c 0 f) ∗ (∃ f, fsPts c 1 f) ∗ (∃ f, wsPts c 0 f) ∗
    (∃ f, wsPts c 1 f) ∗ (∃ f, wbM.view.loc (c : Thread nD τ) ↦{fullShare} f) ∗ (∃ f, outM.view.loc (c : Thread nD τ) ↦{fullShare} f) ∗ semVal (dcell c (33 : Fin 37)) 0 ∗
    semVal (dcell c (34 : Fin 37)) 0 ∗ semVal (dcell c (35 : Fin 37)) 0 ∗ semVal (dcell c (36 : Fin 37)) 0)

/-- What the body leaves on device `c`. -/
def bodyPost (c : Dev nD) : sProp 𝕄 :=
  iprop(
    (∃ W, owes (c : Thread nD τ) (owed c 18) W) ∗ argPts m c ∗ (outM.view.loc (c : Thread nD τ) ↦{fullShare} outC m c) ∗ closed c (sendSem 0 0) ∗ closed c (sendSem 1 0) ∗
    closed c (sendSem 2 0) ∗ closed c (sendSem 0 1) ∗ closed c (sendSem 1 1) ∗ closed c (sendSem 2 1) ∗ closed c (sendSem 0 2) ∗ closed c (sendSem 1 2) ∗
    closed c (sendSem 2 2) ∗ closed c (sendSem 0 3) ∗ closed c (sendSem 1 3) ∗ closed c (sendSem 2 3) ∗ closed c (recvSem 0 0) ∗ closed c (recvSem 1 0) ∗
    closed c (recvSem 2 0) ∗ closed c (recvSem 0 1) ∗ closed c (recvSem 1 1) ∗ closed c (recvSem 2 1) ∗ closed c (recvSem 0 2) ∗ closed c (recvSem 1 2) ∗
    closed c (recvSem 2 2) ∗ closed c (recvSem 0 3) ∗ closed c (recvSem 1 3) ∗ closed c (recvSem 2 3) ∗ closed c (asendSem 0) ∗ closed c (asendSem 1) ∗
    closed c (asendSem 2) ∗ closed c (arecvSem 0) ∗ closed c (arecvSem 1) ∗ closed c (arecvSem 2) ∗ semVal (barCell c) 0 ∗ semVal (dcell c (33 : Fin 37)) 0 ∗
    semVal (dcell c (34 : Fin 37)) 0 ∗ semVal (dcell c (35 : Fin 37)) 0 ∗ semVal (dcell c (36 : Fin 37)) 0 ∗ xsPts c 0 0 (xsC m c) ∗ xsPts c 1 0 (xsC m c) ∗
    xsPts c 2 0 (xsC m c) ∗ xsPts c 0 1 (xsC m c) ∗ xsPts c 1 1 (xsC m c) ∗ xsPts c 2 1 (xsC m c) ∗ xsPts c 0 2 (xsC m c) ∗ xsPts c 1 2 (xsC m c) ∗ xsPts c 2 2 (xsC m c) ∗
    xsPts c 0 3 (xsC m c) ∗ xsPts c 1 3 (xsC m c) ∗ xsPts c 2 3 (xsC m c) ∗ xoPts c 0 (xsC m c) ∗ xoPts c 1 (xsC m c) ∗ xoPts c 2 (xsC m c) ∗ xoPts c 3 (xsC m c) ∗
    xgPts c 0 0 (xgC m c) ∗ xgPts c 1 0 (xgC m c) ∗ xgPts c 2 0 (xgC m c) ∗ xgPts c 0 1 (xgC m c) ∗ xgPts c 1 1 (xgC m c) ∗ xgPts c 2 1 (xgC m c) ∗ xgPts c 0 2 (xgC m c) ∗
    xgPts c 1 2 (xgC m c) ∗ xgPts c 2 2 (xgC m c) ∗ xgPts c 0 3 (xgC m c) ∗ xgPts c 1 3 (xgC m c) ∗ xgPts c 2 3 (xgC m c) ∗
    (amM.view.loc (c : Thread nD τ) ↦{fullShare} amC m c) ∗ (∃ f, fsPts c 0 f) ∗ (∃ f, fsPts c 1 f) ∗ (∃ f, wsPts c 0 f) ∗ (∃ f, wsPts c 1 f) ∗
    (wbM.view.loc (c : Thread nD τ) ↦{fullShare} wbC m c))

set_option maxHeartbeats 16000000 in
/-- The body's run. -/
theorem body_run (K : Dev nD × Fin 33 → ℕ) (c : Dev nD) (Q : PUnit → sProp 𝕄) (W : Waits sig Unit) :
    iprop(bodyPre m K c W ∗ (bodyPost m c -∗ Q ⟨⟩))
      ⊢ wp frame (wpE (defs₀ (F := F)) 𝒱₀ c none) Set.univ
          (cc0_body (Memref.whole main_arg0) (Memref.isWhole_whole _) (Memref.whole main_arg1) (Memref.isWhole_whole _) (Memref.whole cc0_stg0_0) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            cc0_scratch6 cc0_scratch7 cc0_scratch8 cc0_scratch9 cc0_scratch10 cc0_scratch11) Q := by
  have hf0 : ∀ k, (levAts L lv : sProp 𝕄) ⊢ MayWait (c : Thread nD τ) (.dma (33 : Fin 37)) () (owed c k) := fun k => mayWait_low (F := F) c _ (by decide) k
  have hf1 : ∀ k, (levAts L lv : sProp 𝕄) ⊢ MayWait (c : Thread nD τ) (.dma (34 : Fin 37)) () (owed c k) := fun k => mayWait_low (F := F) c _ (by decide) k
  have hf2 : ∀ k, (levAts L lv : sProp 𝕄) ⊢ MayWait (c : Thread nD τ) (.dma (35 : Fin 37)) () (owed c k) := fun k => mayWait_low (F := F) c _ (by decide) k
  have hf3 : ∀ k, (levAts L lv : sProp 𝕄) ⊢ MayWait (c : Thread nD τ) (.dma (36 : Fin 37)) () (owed c k) := fun k => mayWait_low (F := F) c _ (by decide) k
  rw [cc0_body_eq_skeleton]; unfold cc0_body_skel bodyPre argPts
  iintro ⟨⟨HO, #Hlev, #Hr, Hb0, Hb1, Hb2, Hl0, Hl1, Hl2, Hcb, Hab, ⟨HxL, HxR, HwL, HwR⟩, Hk00, Hk10, Hk20, Hk01, Hk11, Hk21, Hk02, Hk12, Hk22, Hk03, Hk13,
      Hk23, Hka0, Hka1, Hka2, Hr00, Hr10, Hr20, Hr01, Hr11, Hr21, Hr02, Hr12, Hr22, Hr03, Hr13, Hr23, Hra0, Hra1, Hra2, ⟨%fx00, Hx00⟩, ⟨%fx10, Hx10⟩,
      ⟨%fx20, Hx20⟩, ⟨%fx01, Hx01⟩, ⟨%fx11, Hx11⟩, ⟨%fx21, Hx21⟩, ⟨%fx02, Hx02⟩, ⟨%fx12, Hx12⟩, ⟨%fx22, Hx22⟩, ⟨%fx03, Hx03⟩, ⟨%fx13, Hx13⟩, ⟨%fx23, Hx23⟩,
      ⟨%fo0, Hxo0⟩, ⟨%fo1, Hxo1⟩, ⟨%fo2, Hxo2⟩, ⟨%fo3, Hxo3⟩, ⟨%fam, Ham⟩, ⟨%ff0, Hf0⟩, ⟨%ff1, Hf1⟩, ⟨%fw0, Hw0⟩, ⟨%fw1, Hw1⟩, ⟨%fwb, Hwb⟩, ⟨%fou, Hou⟩, Hs33,
      Hs34, Hs35, Hs36⟩, Hk⟩
  sl_exec
  iapplyF (wp_bar_signal m K c _ 0 (dev_bar0 c) _)
  iintro HO
  sl_exec
  iapplyF (wp_bar_signal m K c _ 1 (dev_bar1 c) _)
  iintro HO
  sl_exec
  iapplyF (wp_bar_signal m K c _ 2 (dev_bar2 c) _)
  iintro HO
  sl_exec
  iapplyF (wp_bar_wait m K c _)
  iintro ⟨HO, Hbz, Hd2, Hd1, Hd0⟩
  unfold landing
  icases Hd0 with ⟨Hg00, Hg01, Hg02, Hg03, Ha0⟩
  icases Hd1 with ⟨Hg10, Hg11, Hg12, Hg13, Ha1⟩
  icases Hd2 with ⟨Hg20, Hg21, Hg22, Hg23, Ha2⟩
  unfold xsPts xoPts fsPts
  sl_exec
  ihave Hx00 := (xs_restate m c 0 0 _) $$ Hx00 []
  · ipureintro; exact xs_stored m c 1 0 _ _ (narrow_x m c 1 0 0 _ _ _ (off1_eq c 1 0))
  iapplyF (wp_send_chunk m K c _ 0 0 (dev_00 c) 3 rfl rfl rfl _)
  iintro ⟨HO, Ht00⟩
  sl_exec
  ihave Hx10 := (xs_restate m c 1 0 _) $$ Hx10 []
  · ipureintro; exact xs_stored m c 2 0 _ _ (narrow_x m c 2 0 1 _ _ _ (off1_eq c 2 0))
  iapplyF (wp_send_chunk m K c _ 1 0 (dev_10 c) 4 rfl rfl rfl _)
  iintro ⟨HO, Ht10⟩
  sl_exec
  ihave Hx20 := (xs_restate m c 2 0 _) $$ Hx20 []
  · ipureintro; exact xs_stored m c 3 0 _ _ (narrow_x m c 3 0 0 _ _ _ (off1_eq c 3 0))
  iapplyF (wp_send_chunk m K c _ 2 0 (dev_20 c) 5 rfl rfl rfl _)
  iintro ⟨HO, Ht20⟩
  sl_exec
  ihave Hxo0 := (xo_restate m c 0 _) $$ Hxo0 []
  · ipureintro; exact xs_stored m c 0 0 _ _ (narrow_x m c 0 0 1 _ _ _ (off1_eq c 0 0))
  ihave Hxo1 := (xo_restate m c 1 _) $$ Hxo1 []
  · ipureintro; exact xs_stored m c 0 1 _ _ (narrow_x m c 0 1 0 _ _ _ (off1_eq c 0 1))
  ihave Hxo2 := (xo_restate m c 2 _) $$ Hxo2 []
  · ipureintro; exact xs_stored m c 0 2 _ _ (narrow_x m c 0 2 1 _ _ _ (off1_eq c 0 2))
  ihave Hxo3 := (xo_restate m c 3 _) $$ Hxo3 []
  · ipureintro; exact xs_stored m c 0 3 _ _ (narrow_x m c 0 3 0 _ _ _ (off1_eq c 0 3))
  ihave Hx01 := (xs_restate m c 0 1 _) $$ Hx01 []
  · ipureintro; exact xs_stored m c 1 1 _ _ (narrow_x m c 1 1 1 _ _ _ (off1_eq c 1 1))
  iapplyF (wp_send_chunk m K c _ 0 1 (dev_01 c) 6 rfl rfl rfl _)
  iintro ⟨HO, Ht01⟩
  sl_exec
  ihave Hx11 := (xs_restate m c 1 1 _) $$ Hx11 []
  · ipureintro; exact xs_stored m c 2 1 _ _ (narrow_x m c 2 1 0 _ _ _ (off1_eq c 2 1))
  iapplyF (wp_send_chunk m K c _ 1 1 (dev_11 c) 7 rfl rfl rfl _)
  iintro ⟨HO, Ht11⟩
  sl_exec
  ihave Hx21 := (xs_restate m c 2 1 _) $$ Hx21 []
  · ipureintro; exact xs_stored m c 3 1 _ _ (narrow_x m c 3 1 1 _ _ _ (off1_eq c 3 1))
  iapplyF (wp_send_chunk m K c _ 2 1 (dev_21 c) 8 rfl rfl rfl _)
  iintro ⟨HO, Ht21⟩
  sl_exec
  ihave Hx02 := (xs_restate m c 0 2 _) $$ Hx02 []
  · ipureintro; exact xs_stored m c 1 2 _ _ (narrow_x m c 1 2 0 _ _ _ (off1_eq c 1 2))
  iapplyF (wp_send_chunk m K c _ 0 2 (dev_02 c) 9 rfl rfl rfl _)
  iintro ⟨HO, Ht02⟩
  sl_exec
  ihave Hx12 := (xs_restate m c 1 2 _) $$ Hx12 []
  · ipureintro; exact xs_stored m c 2 2 _ _ (narrow_x m c 2 2 1 _ _ _ (off1_eq c 2 2))
  iapplyF (wp_send_chunk m K c _ 1 2 (dev_12 c) 10 rfl rfl rfl _)
  iintro ⟨HO, Ht12⟩
  sl_exec
  ihave Hx22 := (xs_restate m c 2 2 _) $$ Hx22 []
  · ipureintro; exact xs_stored m c 3 2 _ _ (narrow_x m c 3 2 0 _ _ _ (off1_eq c 3 2))
  iapplyF (wp_send_chunk m K c _ 2 2 (dev_22 c) 11 rfl rfl rfl _)
  iintro ⟨HO, Ht22⟩
  sl_exec
  ihave Hx03 := (xs_restate m c 0 3 _) $$ Hx03 []
  · ipureintro; exact xs_stored m c 1 3 _ _ (narrow_x m c 1 3 1 _ _ _ (off1_eq c 1 3))
  iapplyF (wp_send_chunk m K c _ 0 3 (dev_03 c) 12 rfl rfl rfl _)
  iintro ⟨HO, Ht03⟩
  sl_exec
  ihave Hx13 := (xs_restate m c 1 3 _) $$ Hx13 []
  · ipureintro; exact xs_stored m c 2 3 _ _ (narrow_x m c 2 3 0 _ _ _ (off1_eq c 2 3))
  iapplyF (wp_send_chunk m K c _ 1 3 (dev_13 c) 13 rfl rfl rfl _)
  iintro ⟨HO, Ht13⟩
  sl_exec
  ihave Hx23 := (xs_restate m c 2 3 _) $$ Hx23 []
  · ipureintro; exact xs_stored m c 3 3 _ _ (narrow_x m c 3 3 1 _ _ _ (off1_eq c 3 3))
  iapplyF (wp_send_chunk m K c _ 2 3 (dev_23 c) 14 rfl rfl rfl _)
  iintro ⟨HO, Ht23⟩
  unfold wsPts
  sl_exec
  ihave Hwb := (wb_restate m c _) $$ Hwb []
  · ipureintro; exact wb_filled m c _ _ _ _ _ _ _ _ _ (narrow_w m c 0 0 _ _) (narrow_w m c 1 1 _ _) (narrow_w m c 2 0 _ _) (narrow_w m c 3 1 _ _) (narrow_w m c 4 0 _ _) (narrow_w m c 5 1 _ _) (narrow_w m c 6 0 _ _) (narrow_w m c 7 1 _ _)
  unfold xoPts
  sl_exec
  iapplyF (wp_wait_recv m K c 0 0 rfl _)
  iintro ⟨HO, Hr00, Hy00⟩
  unfold xgPts
  sl_exec
  iapplyF (wp_wait_recv m K c 1 0 rfl _)
  iintro ⟨HO, Hr10, Hy10⟩
  unfold xgPts
  sl_exec
  iapplyF (wp_wait_recv m K c 2 0 rfl _)
  iintro ⟨HO, Hr20, Hy20⟩
  unfold xgPts
  sl_exec
  iapplyF (wp_wait_recv m K c 0 1 rfl _)
  iintro ⟨HO, Hr01, Hy01⟩
  unfold xgPts
  sl_exec
  iapplyF (wp_wait_recv m K c 1 1 rfl _)
  iintro ⟨HO, Hr11, Hy11⟩
  unfold xgPts
  sl_exec
  iapplyF (wp_wait_recv m K c 2 1 rfl _)
  iintro ⟨HO, Hr21, Hy21⟩
  unfold xgPts
  sl_exec
  iapplyF (wp_wait_recv m K c 0 2 rfl _)
  iintro ⟨HO, Hr02, Hy02⟩
  unfold xgPts
  sl_exec
  iapplyF (wp_wait_recv m K c 1 2 rfl _)
  iintro ⟨HO, Hr12, Hy12⟩
  unfold xgPts
  sl_exec
  iapplyF (wp_wait_recv m K c 2 2 rfl _)
  iintro ⟨HO, Hr22, Hy22⟩
  unfold xgPts
  sl_exec
  iapplyF (wp_wait_recv m K c 0 3 rfl _)
  iintro ⟨HO, Hr03, Hy03⟩
  unfold xgPts
  sl_exec
  iapplyF (wp_wait_recv m K c 1 3 rfl _)
  iintro ⟨HO, Hr13, Hy13⟩
  unfold xgPts
  sl_exec
  iapplyF (wp_wait_recv m K c 2 3 rfl _)
  iintro ⟨HO, Hr23, Hy23⟩
  unfold xgPts
  sl_exec
  iapplyF (wp_wait_send m K c 0 0 rfl _)
  iintro ⟨HO, Ht00, Hx00⟩
  sl_exec
  iapplyF (wp_wait_send m K c 1 0 rfl _)
  iintro ⟨HO, Ht10, Hx10⟩
  sl_exec
  iapplyF (wp_wait_send m K c 2 0 rfl _)
  iintro ⟨HO, Ht20, Hx20⟩
  sl_exec
  iapplyF (wp_wait_send m K c 0 1 rfl _)
  iintro ⟨HO, Ht01, Hx01⟩
  sl_exec
  iapplyF (wp_wait_send m K c 1 1 rfl _)
  iintro ⟨HO, Ht11, Hx11⟩
  sl_exec
  iapplyF (wp_wait_send m K c 2 1 rfl _)
  iintro ⟨HO, Ht21, Hx21⟩
  sl_exec
  iapplyF (wp_wait_send m K c 0 2 rfl _)
  iintro ⟨HO, Ht02, Hx02⟩
  sl_exec
  iapplyF (wp_wait_send m K c 1 2 rfl _)
  iintro ⟨HO, Ht12, Hx12⟩
  sl_exec
  iapplyF (wp_wait_send m K c 2 2 rfl _)
  iintro ⟨HO, Ht22, Hx22⟩
  sl_exec
  iapplyF (wp_wait_send m K c 0 3 rfl _)
  iintro ⟨HO, Ht03, Hx03⟩
  sl_exec
  iapplyF (wp_wait_send m K c 1 3 rfl _)
  iintro ⟨HO, Ht13, Hx13⟩
  sl_exec
  iapplyF (wp_wait_send m K c 2 3 rfl _)
  iintro ⟨HO, Ht23, Hx23⟩
  sl_exec
  ihave Ham := (am_restate m c _) $$ Ham []
  · ipureintro; exact am_stored m c _ _ (mx_of m c (chunk0_of m c (load_own m c 0) (load_recv m c 0 0) (load_recv m c 1 0) (load_recv m c 2 0) (load_w m c c _ (off2_eq c)) (load_w m c (bw c 0) _ (off3_eq c 0)) (load_w m c (bw c 1) _ (off3_eq c 1)) (load_w m c (bw c 2) _ (off3_eq c 2))).2 ((chunk1_of m c (load_own m c 1) (load_recv m c 0 1) (load_recv m c 1 1) (load_recv m c 2 1) (load_w m c c _ (off2_eq c)) (load_w m c (bw c 0) _ (off3_eq c 0)) (load_w m c (bw c 1) _ (off3_eq c 1)) (load_w m c (bw c 2) _ (off3_eq c 2))).2 _) ((chunk2_of m c (load_own m c 2) (load_recv m c 0 2) (load_recv m c 1 2) (load_recv m c 2 2) (load_w m c c _ (off2_eq c)) (load_w m c (bw c 0) _ (off3_eq c 0)) (load_w m c (bw c 1) _ (off3_eq c 1)) (load_w m c (bw c 2) _ (off3_eq c 2))).2 _) ((chunk3_of m c (load_own m c 3) (load_recv m c 0 3) (load_recv m c 1 3) (load_recv m c 2 3) (load_w m c c _ (off2_eq c)) (load_w m c (bw c 0) _ (off3_eq c 0)) (load_w m c (bw c 1) _ (off3_eq c 1)) (load_w m c (bw c 2) _ (off3_eq c 2))).2 _))
  ihave Hth := (am_thirds c _) $$ Ham
  icases Hth with ⟨Hth0, Hth1, Hth2⟩
  iapplyF (wp_send_row m K c _ 0 (dev_a0 c) 15 rfl rfl rfl _)
  iintro ⟨HO, Hta0⟩
  sl_exec
  iapplyF (wp_send_row m K c _ 1 (dev_a1 c) 16 rfl rfl rfl _)
  iintro ⟨HO, Hta1⟩
  sl_exec
  iapplyF (wp_send_row m K c _ 2 (dev_a2 c) 17 rfl rfl rfl _)
  iintro ⟨HO, Hta2⟩
  sl_exec
  iapplyF (wp_wait_arecv m K c 0 rfl _)
  iintro ⟨HO, Hra0, Hya0⟩
  sl_exec
  iapplyF (wp_wait_arecv m K c 1 rfl _)
  iintro ⟨HO, Hra1, Hya1⟩
  sl_exec
  iapplyF (wp_wait_arecv m K c 2 rfl _)
  iintro ⟨HO, Hra2, Hya2⟩
  sl_exec
  iapplyF (wp_wait_asend m K c 0 rfl _)
  iintro ⟨HO, Hta0, Hth0⟩
  sl_exec
  iapplyF (wp_wait_asend m K c 1 rfl _)
  iintro ⟨HO, Hta1, Hth1⟩
  sl_exec
  iapplyF (wp_wait_asend m K c 2 rfl _)
  iintro ⟨HO, Hta2, Hth2⟩
  ihave Ham := (am_join c (amC m c)) $$ [Hth0 Hth1 Hth2 Hya0 Hya1 Hya2]
  · iclose
  ihave Hou := (out_restate m c _) $$ Hou []
  · ipureintro; exact out_filled m c _ _ _ _ _ (chunk0_of m c (load_own m c 0) (load_recv m c 0 0) (load_recv m c 1 0) (load_recv m c 2 0) (load_w m c c _ (off2_eq c)) (load_w m c (bw c 0) _ (off3_eq c 0)) (load_w m c (bw c 1) _ (off3_eq c 1)) (load_w m c (bw c 2) _ (off3_eq c 2))).1 (chunk1_of m c (load_own m c 1) (load_recv m c 0 1) (load_recv m c 1 1) (load_recv m c 2 1) (load_w m c c _ (off2_eq c)) (load_w m c (bw c 0) _ (off3_eq c 0)) (load_w m c (bw c 1) _ (off3_eq c 1)) (load_w m c (bw c 2) _ (off3_eq c 2))).1 (chunk2_of m c (load_own m c 2) (load_recv m c 0 2) (load_recv m c 1 2) (load_recv m c 2 2) (load_w m c c _ (off2_eq c)) (load_w m c (bw c 0) _ (off3_eq c 0)) (load_w m c (bw c 1) _ (off3_eq c 1)) (load_w m c (bw c 2) _ (off3_eq c 2))).1 (chunk3_of m c (load_own m c 3) (load_recv m c 0 3) (load_recv m c 1 3) (load_recv m c 2 3) (load_w m c c _ (off2_eq c)) (load_w m c (bw c 0) _ (off3_eq c 0)) (load_w m c (bw c 1) _ (off3_eq c 1)) (load_w m c (bw c 2) _ (off3_eq c 2))).1
  sl_exec
  ihave Hou := (out_fin_restate m c _) $$ Hou []
  · ipureintro; exact out_final m c _ _ _ _ (load_am c _ _) (load_out c _ _)
  rw [wp_ret]; imodintro
  iapply Hk
  unfold bodyPost argPts xsPts xoPts xgPts fsPts wsPts closed
  iclose

end Cert.KernelIdealProof
-- ==== Proof.KernelIdeal.Ghost.lean ====
/-
# The exchange's bookkeeping, from the launch to each device's start

The launch mints, for every device, the cells of the exchange and one token for each duty of its own cells. Here the
cells are put under invariants, the tokens go to the devices that pay with them, and what the whole mesh owes a device
comes to the credit its waits draw.
-/
module

public import proofs.«01_k».proof.Proof.KernelIdeal.Send
public import proofs.«01_k».proof.Proof.KernelIdeal.Pieces

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Cells and tokens, numbered -/

/-- A semaphore's number: 0 for the barrier, its own for a DMA semaphore. -/
def semNo : SemLoc sig → ℕ
  | .reg _ => 0
  | .dma q => q.val

theorem semNo_csem (k : Fin 33) : semNo (csem k) = k.val := by revert k; decide

theorem kcell_injective : Function.Injective (kcell : Dev nD × Fin 33 → GSem nD τ sig) := by
  rintro ⟨c, k⟩ ⟨c', k'⟩ h
  have h1 : c = c' := congrArg (fun g : GSem nD τ sig => g.1.1) h
  have h2 : semNo (csem k) = semNo (csem k') := congrArg (fun g : GSem nD τ sig => semNo g.2) h
  rw [semNo_csem, semNo_csem] at h2
  exact Prod.ext h1 (Fin.ext h2)

def ringCells : Finset (GSem nD τ sig) := Finset.univ.map ⟨kcell, kcell_injective⟩

/-- The duties of a device's cells: the barrier's three, each chunk sent, each chunk received, each row of maxima sent and
    received. -/
abbrev Duty : Type := Fin 3 ⊕ (Fin 3 × Fin 4) ⊕ (Fin 3 × Fin 4) ⊕ Fin 3 ⊕ Fin 3

/-- The semaphore a duty is on, and which of the semaphore's duties it is. -/
abbrev dutySem : Duty → SemLoc sig × Fin 3
  | .inl e => (.reg barS, e)
  | .inr (.inl t) => (.dma (sendSem t.1 t.2), 0)
  | .inr (.inr (.inl t)) => (.dma (recvSem t.1 t.2), 0)
  | .inr (.inr (.inr (.inl e))) => (.dma (asendSem e), 0)
  | .inr (.inr (.inr (.inr e))) => (.dma (arecvSem e), 0)

/-- A number for each duty that tells them apart. -/
def dutyNo (x : SemLoc sig × Fin 3) : ℕ := semNo x.1 * 3 + x.2.val

theorem dutyNo_injective : ∀ a b : Duty, dutyNo (dutySem a) = dutyNo (dutySem b) → a = b := by decide +kernel

abbrev tokOf (ct : Dev nD × Duty) : GSem nD τ sig × ℕ × Fin 3 := (((ct.1 : Thread nD τ), (dutySem ct.2).1), 0, (dutySem ct.2).2)

theorem tokOf_injective : Function.Injective (tokOf : Dev nD × Duty → GSem nD τ sig × ℕ × Fin 3) := by
  rintro ⟨c, a⟩ ⟨c', b⟩ h
  have h1 : c = c' := congrArg (fun g : GSem nD τ sig × ℕ × Fin 3 => g.1.1.1) h
  have h2 : dutyNo (dutySem a) = dutyNo (dutySem b) := congrArg (fun g : GSem nD τ sig × ℕ × Fin 3 => dutyNo (g.1.2, g.2.2)) h
  exact Prod.ext h1 (dutyNo_injective a b h2)

def ringToks : Finset (GSem nD τ sig × ℕ × Fin 3) := Finset.univ.map ⟨tokOf, tokOf_injective⟩

/-- The five families of tokens, of cells on the devices that `t` names. -/
def tokens (t : Fin 3 → Dev nD) (c : Dev nD) : sProp 𝕄 :=
  iprop((bigSep Finset.univ fun e : Fin 3 => dutyTok ER (barCell (t e)) 0 e)
    ∗ (bigSep Finset.univ fun x : Fin 3 × Fin 4 => dutyTok ER (dcell c (sendSem x.1 x.2)) 0 0)
    ∗ (bigSep Finset.univ fun x : Fin 3 × Fin 4 => dutyTok ER (dcell (t x.1) (recvSem x.1 x.2)) 0 0)
    ∗ (bigSep Finset.univ fun e : Fin 3 => dutyTok ER (dcell c (asendSem e)) 0 0)
    ∗ (bigSep Finset.univ fun e : Fin 3 => dutyTok ER (dcell (t e) (arecvSem e)) 0 0))

/-- The tokens of a device's own cells, and those it pays with. -/
abbrev toks (c : Dev nD) : sProp 𝕄 := tokens (fun _ => c) c
abbrev payToks (c : Dev nD) : sProp 𝕄 := tokens (fun e => fw c e) c

/-- What the launch deals device `c`. -/
def G (c : Dev nD) : sProp 𝕄 :=
  iprop((bigSep Finset.univ fun k : Fin 33 => roundState ER (ringRd m) (kcell (c, k)) 0)
    ∗ (bigSep Finset.univ fun k : Fin 33 => iprop(atPos ER (kcell (c, k)) 0 ∅ 0 ∗ reached ER (kcell (c, k)) 0)) ∗ toks c)

theorem toks_eq (c : Dev nD) : (bigSep Finset.univ fun a : Duty => (dutyTok ER (tokOf (c, a)).1 (tokOf (c, a)).2.1 (tokOf (c, a)).2.2 : sProp 𝕄)) = toks c := by
  rw [bigSep_univ_sum, bigSep_univ_sum, bigSep_univ_sum, bigSep_univ_sum]; rfl

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Fin 33 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => toks_eq c
  iintro HX
  imod (Rounds.fund ER (ringRd m) ringCells ringToks) $$ HX with ⟨Hst, Hr, Hat, Htok⟩
  imodintro
  ihave Hst' := (Entails.of_eq (hX fun g => roundState ER (ringRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores at launch -/

/-- The kinds of DMA semaphore among the exchange's cells: chunks sent, chunks received, maxima sent, maxima received, and
    the two that are never used. -/
abbrev Kind4 : Type := (Fin 3 × Fin 4) ⊕ (Fin 3 × Fin 4) ⊕ Fin 3 ⊕ Fin 3 ⊕ Bool

abbrev semOf : Kind4 → DmaSem sig
  | .inl t => sendSem t.1 t.2
  | .inr (.inl t) => recvSem t.1 t.2
  | .inr (.inr (.inl e)) => asendSem e
  | .inr (.inr (.inr (.inl e))) => arecvSem e
  | .inr (.inr (.inr (.inr b))) => if b then (29 : Fin 37) else (25 : Fin 37)

theorem semOf_range : ∀ x : Kind4, 1 ≤ (semOf x).val ∧ (semOf x).val ≤ 32 := by decide

/-- A family over the exchange's DMA semaphores, by kind. -/
theorem over_kinds (Φ : DmaSem sig → sProp 𝕄) : (bigSep Finset.univ fun x : Kind4 => Φ (semOf x))
    = iprop((bigSep Finset.univ fun t : Fin 3 × Fin 4 => Φ (sendSem t.1 t.2)) ∗ (bigSep Finset.univ fun t : Fin 3 × Fin 4 => Φ (recvSem t.1 t.2))
      ∗ (bigSep Finset.univ fun e : Fin 3 => Φ (asendSem e)) ∗ (bigSep Finset.univ fun e : Fin 3 => Φ (arecvSem e)) ∗ Φ (25 : Fin 37) ∗ Φ (29 : Fin 37)) := by
  rw [bigSep_univ_sum, bigSep_univ_sum, bigSep_univ_sum, bigSep_univ_sum,
    bigSep_univ_eq_bigSepL [false, true] (by decide) (by decide) (fun b : Bool => Φ (semOf (.inr (.inr (.inr (.inr b))))))]
  rfl

/-- The cells: the barrier's and those by kind. -/
abbrev cellOfKind : Unit ⊕ Kind4 → Fin 33
  | .inl _ => 0
  | .inr x => place (semOf x)
theorem cellOfKind_bijective : Function.Bijective cellOfKind := by decide +kernel

theorem over_cells (Φ : Fin 33 → sProp 𝕄) : bigSep Finset.univ Φ = iprop(Φ 0 ∗ bigSep Finset.univ fun x : Kind4 => Φ (place (semOf x))) := by
  rw [bigSep_univ_equiv (Equiv.ofBijective cellOfKind cellOfKind_bijective) Φ, bigSep_univ_sum, Finset.univ_unique, bigSep_singleton]; rfl

/-- The kernel's own semaphores: those by kind, and four for local copies. -/
abbrev ownOfKind : Kind4 ⊕ Fin 4 → Fin 36
  | .inl x => ⟨((semOf x).val - 1) % 36, Nat.mod_lt _ (by decide)⟩
  | .inr i => ⟨32 + i.val, by omega⟩
theorem ownOfKind_bijective : Function.Bijective ownOfKind := by decide +kernel
theorem osem_kind : ∀ x : Kind4, osem (ownOfKind (.inl x)) = .dma (semOf x) := by decide +kernel

/-- The local copies' semaphores, which no other device touches. -/
def locals (c : Dev nD) : sProp 𝕄 :=
  iprop(semVal (dcell c (33 : Fin 37)) 0 ∗ semVal (dcell c (34 : Fin 37)) 0 ∗ semVal (dcell c (35 : Fin 37)) 0 ∗ semVal (dcell c (36 : Fin 37)) 0)

theorem ownSems0_eq (c : Dev nD) : (Pipeline.ownSems0 (Ix := Unit) (Name := ℕ) (U := UU) (Lvl := ℕ) (Val := Elt F) (τ := τ) osem c : sProp 𝕄)
    = iprop((bigSep Finset.univ fun x : Kind4 => closed c (semOf x)) ∗ locals c) := by
  unfold Pipeline.ownSems0
  rw [bigSep_univ_equiv (Equiv.ofBijective ownOfKind ownOfKind_bijective), bigSep_univ_sum, four]
  refine congrArg₂ _ (bigSep_congr fun x _ => ?_) rfl
  show semVal ((c : Thread nD τ), osem (ownOfKind (.inl x))) 0 = _
  rw [osem_kind]; rfl

/-- The launch's one unscoped semaphore is the barrier's. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem cells_of_sems (c : Dev nD) :
    iprop(Pipeline.ownSems0 (Ix := Unit) (Name := ℕ) (U := UU) (Lvl := ℕ) (Val := Elt F) (τ := τ) osem c ∗ unscopedSems0 c)
      ⊢ iprop((bigSep Finset.univ fun k : Fin 33 => semVal (kcell (c, k)) 0) ∗ locals c : sProp 𝕄) := by
  rw [ownSems0_eq, unscopedSems0_eq, over_cells (fun k : Fin 33 => semVal (kcell (c, k)) 0),
    bigSep_congr (s := Finset.univ) (fun (x : Kind4) _ => show (semVal (kcell (c, place (semOf x))) 0 : sProp 𝕄) = closed c (semOf x) by rw [kcell_place c _ (semOf_range x)]; rfl)]
  iintro ⟨⟨HS, HL⟩, HB⟩
  isplitl [HB HS]
  · isplitl [HB]; · iexact HB
    iexact HS
  iexact HL

/-! ## Invariants, and the tokens to those who pay -/

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (ringRd m) κ (kcell (c, k))))
          ∗ (bigSep Finset.univ fun k => iprop(atPos ER (kcell (c, k)) 0 ∅ 0 ∗ reached ER (kcell (c, k)) 0)) ∗ toks c ∗ locals c) := by
  unfold G
  iintro ⟨Hos, Hus, Hst, Hat, Htok⟩
  ihave Hv := (cells_of_sems (F := F) c) $$ [Hos Hus]
  · isplitl [Hos] <;> iassumption
  icases Hv with ⟨Hv, Hloc⟩
  imod (show iprop((bigSep Finset.univ fun k : Fin 33 => semVal (kcell (c, k)) 0) ∗ bigSep Finset.univ fun k : Fin 33 => roundState ER (ringRd m) (kcell (c, k)) 0)
      ⊢ (|={Set.univ}=> bigSep Finset.univ fun k => iprop(∃ κ : ℕ, cellInv ER (ringRd m) κ (kcell (c, k))) : sProp 𝕄) from by
        rw [← bigSep_sep']
        exact (bigSep_mono fun k _ => (Rounds.body_intro ER (ringRd m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact Hloc

/-- A family over the devices and a second index that names a turn may be read at the turned devices. -/
theorem around {J : Type} [Fintype J] (f : J → Fin 3) (Φ : Dev nD → J → sProp 𝕄) :
    (bigSep Finset.univ fun c : Dev nD => bigSep Finset.univ fun j => Φ c j) = bigSep Finset.univ fun c : Dev nD => bigSep Finset.univ fun j => Φ (fw c (f j)) j := by
  rw [BI.bigSep_univ_comm Φ, BI.bigSep_univ_comm (fun c j => Φ (fw c (f j)) j)]
  exact bigSep_congr fun j _ => bigSep_univ_equiv (turn (f j)) (fun c => Φ c j)

theorem toks_around : (bigSep Finset.univ fun c : Dev nD => (toks c : sProp 𝕄)) = bigSep Finset.univ fun c : Dev nD => payToks c := by
  unfold toks payToks tokens
  simp only [bigSep_sep']
  rw [around (fun e => e) (fun c e => (dutyTok ER (barCell c) 0 e : sProp 𝕄)),
    around (fun x : Fin 3 × Fin 4 => x.1) (fun c x => (dutyTok ER (dcell c (recvSem x.1 x.2)) 0 0 : sProp 𝕄)),
    around (fun e => e) (fun c e => (dutyTok ER (dcell c (arecvSem e)) 0 0 : sProp 𝕄))]

/-- What is device `c`'s alone: its positions at its cells, the tokens it pays with, the local copies' semaphores. -/
def linear (c : Dev nD) : sProp 𝕄 :=
  iprop(atPos ER (barCell c) 0 ∅ 0 ∗ (bigSep Finset.univ fun x : Kind4 => atPos ER (dcell c (semOf x)) 0 ∅ 0) ∗ payToks c ∗ locals c)

/-- What the mesh-wide step makes for each device. -/
def G' (c : Dev nD) : sProp 𝕄 := iprop(∃ K, records m K ∗ linear c)

theorem linear_of (c : Dev nD) : iprop((bigSep Finset.univ fun k : Fin 33 => atPos ER (kcell (c, k)) 0 ∅ 0) ∗ payToks c ∗ locals c) ⊢ (linear c : sProp 𝕄) := by
  unfold linear
  rw [over_cells (fun k : Fin 33 => atPos ER (kcell (c, k)) 0 ∅ 0),
    bigSep_congr (s := Finset.univ) (fun (x : Kind4) _ => show (atPos ER (kcell (c, place (semOf x))) 0 ∅ 0 : sProp 𝕄) = atPos ER (dcell c (semOf x)) 0 ∅ 0 by rw [kcell_place c _ (semOf_range x)])]
  iintro ⟨⟨HB, HX⟩, HT, HL⟩
  isplitl [HB]; · iexact HB
  isplitl [HX]; · iexact HX
  isplitl [HT]; · iexact HT
  iexact HL

theorem linear_all : iprop((bigSep Finset.univ fun c : Dev nD => bigSep Finset.univ fun k : Fin 33 => atPos ER (kcell (c, k)) 0 ∅ 0)
      ∗ (bigSep Finset.univ fun c : Dev nD => payToks c) ∗ bigSep Finset.univ fun c : Dev nD => locals c) ⊢ bigSep Finset.univ fun c : Dev nD => (linear c : sProp 𝕄) := by
  rw [← bigSep_sep', ← bigSep_sep']
  exact bigSep_mono fun c _ => linear_of (F := F) c

theorem regroup :
    (bigSep Finset.univ fun c : Dev nD => iprop((bigSep Finset.univ fun k => iprop(∃ κ : ℕ, cellInv ER (ringRd m) κ (kcell (c, k))))
          ∗ (bigSep Finset.univ fun k => iprop(atPos ER (kcell (c, k)) 0 ∅ 0 ∗ reached ER (kcell (c, k)) 0)) ∗ toks c ∗ locals c) : sProp 𝕄)
      ⊢ bigSep Finset.univ (G' m) := by
  rw [bigSep_sep', bigSep_sep', bigSep_sep', ← bigSep_univ_prod (fun ck : Dev nD × Fin 33 => iprop(∃ κ : ℕ, cellInv ER (ringRd m) κ (kcell ck))),
    bigSep_congr (s := Finset.univ) (fun (c : Dev nD) _ => bigSep_sep' Finset.univ (fun k : Fin 33 => (atPos ER (kcell (c, k)) 0 ∅ 0 : sProp 𝕄)) (fun k => reached ER (kcell (c, k)) 0)),
    bigSep_sep', ← bigSep_univ_prod (fun ck : Dev nD × Fin 33 => (reached ER (kcell ck) 0 : sProp 𝕄)), toks_around]
  iintro ⟨HI, ⟨Hat, #HR⟩, Htok, Hloc⟩
  ihave HK := (BI.bigSep_exists_pi Finset.univ (fun (ck : Dev nD × Fin 33) (κ : ℕ) => (cellInv ER (ringRd m) κ (kcell ck) : sProp 𝕄))) $$ HI
  icases HK with ⟨%K, #HI⟩
  iapply (BI.bigSep_with_persistent (R := records m K) (Φ := linear) fun c _ => show iprop(records m K ∗ linear c) ⊢ G' m c from by
    unfold G'; exact exists_intro (Φ := fun K => iprop(records m K ∗ linear c)) K)
  isplitr
  · unfold records; isplitl; · iexact HI
    iexact HR
  · iapply (linear_all (F := F))
    isplitl [Hat]; · iexact Hat
    isplitl [Htok]; · iexact Htok
    iexact Hloc

/-- The mesh-wide step: every device's semaphores put under the invariants at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## What the mesh owes each device -/

/-- The payments due to a cell, counted: each is of the cell's amount. -/
theorem tallies_count (g : GSem nD τ sig) (l : List (GSem nD τ sig × ℕ)) (h : ∀ p ∈ l, p.2 = amountOf p.1.2) :
    tallies l g () = (l.map Prod.fst).count g * amountOf g.2 := by
  induction l with
  | nil => rw [List.map_nil, List.count_nil, Nat.zero_mul]; rfl
  | cons p l ih =>
    unfold tallies
    rw [Pi.add_apply, Finsupp.add_apply, tallyAt_apply, ih fun p hp => h p (List.mem_cons_of_mem _ hp), List.map_cons]
    by_cases hp : g = p.1
    · subst hp
      rw [if_pos ⟨rfl, rfl⟩, List.count_cons_self, h p List.mem_cons_self, Nat.add_mul, Nat.one_mul]
    · rw [if_neg (fun h' => hp h'.1), List.count_cons_of_ne (fun h' => hp h'.symm), Nat.add_zero]

theorem debts_amount (c : Dev nD) : ∀ p ∈ debts c, p.2 = amountOf p.1.2 := by
  unfold debts
  simp only [List.forall_mem_cons]
  refine ⟨rfl, rfl, rfl, rfl, rfl, rfl, rfl, rfl, rfl, rfl, rfl, rfl, rfl, rfl, rfl, rfl, rfl, rfl, fun _ h => absurd h List.not_mem_nil⟩

/-- How many payments the mesh makes to a cell. -/
theorem dues_bar : ∀ c : Dev nD, (∑ d : Dev nD, ((debts d).map Prod.fst).count (barCell c)) = 3 := by decide +kernel
theorem dues_recv : ∀ (c : Dev nD) (t : Fin 3 × Fin 4), (∑ d : Dev nD, ((debts d).map Prod.fst).count (dcell c (recvSem t.1 t.2))) = 1 := by decide +kernel
theorem dues_arecv : ∀ (c : Dev nD) (e : Fin 3), (∑ d : Dev nD, ((debts d).map Prod.fst).count (dcell c (arecvSem e))) = 1 := by decide +kernel

/-- The mesh's debts to a cell are a number of its amounts. -/
theorem launch_credit (g : GSem nD τ sig) (n : ℕ) (h : (∑ d : Dev nD, ((debts d).map Prod.fst).count g) = n) :
    tallyOn g (launchCredit (Pipeline.owing fun d => owed d 0) 0 g) = tallyAt g () (n * amountOf g.2) := by
  unfold tallyAt
  refine congrArg _ (Finsupp.ext fun u => ?_)
  cases u
  rw [Pipeline.launchCredit_owing, Finsupp.single_eq_same, Finset.sum_congr rfl fun d _ => show owed d 0 g () = _ from tallies_count g (debts d) (debts_amount d), ← Finset.sum_mul, h]

/-- The cells others pay for. -/
abbrev dueSem : Unit ⊕ (Fin 3 × Fin 4) ⊕ Fin 3 → SemLoc sig
  | .inl _ => .reg barS
  | .inr (.inl t) => .dma (recvSem t.1 t.2)
  | .inr (.inr e) => .dma (arecvSem e)

theorem semNo_dueSem : ∀ a b, semNo (dueSem a) = semNo (dueSem b) → a = b := by decide +kernel

theorem dueSem_injective : Function.Injective dueSem := fun a b h => semNo_dueSem a b (congrArg semNo h)

/-- The credit of the mesh's debts to device `c`. -/
def credits (c : Dev nD) : sProp 𝕄 :=
  iprop(cred (tallyAt (barCell c) () 3)
    ∗ (bigSep Finset.univ fun t : Fin 3 × Fin 4 => cred (tallyAt (dcell c (recvSem t.1 t.2)) () (amountOf (.dma (recvSem t.1 t.2)))))
    ∗ (bigSep Finset.univ fun e : Fin 3 => cred (tallyAt (dcell c (arecvSem e)) () (amountOf (.dma (arecvSem e))))))

theorem creds (c : Dev nD) : (Pipeline.launchCred (fun d => owed d 0) c : sProp 𝕄) ⊢ credits c := by
  unfold Pipeline.launchCred
  refine (bigSep_subset (Finset.subset_univ (Finset.univ.map ⟨dueSem, dueSem_injective⟩))).trans ?_
  rw [bigSep_map, bigSep_univ_sum, bigSep_univ_sum, Finset.univ_unique, bigSep_singleton]
  unfold credits
  refine BIClass.sep_mono (Entails.of_eq (congrArg cred (launch_credit (barCell c) 3 (dues_bar c)))) (BIClass.sep_mono (Entails.of_eq (bigSep_congr fun t _ => congrArg cred ?_)) (Entails.of_eq (bigSep_congr fun e _ => congrArg cred ?_)))
  · exact (launch_credit (dcell c (recvSem t.1 t.2)) 1 (dues_recv c t)).trans (by rw [Nat.one_mul])
  · exact (launch_credit (dcell c (arecvSem e)) 1 (dues_arecv c e)).trans (by rw [Nat.one_mul])

end Cert.KernelIdealProof
-- ==== Proof.KernelIdeal.Assemble.lean ====
/-
# From a device's start to its body, and back

`body_run` speaks of pieces, one by one: chunks of the send and gather buffers, rows of the maxima, semaphores. Here the
pieces are gathered from the whole buffers and the families of semaphores the launch hands over, and put together again.
-/
module

public import proofs.«01_k».proof.Proof.KernelIdeal.Body
public import proofs.«01_k».proof.Proof.KernelIdeal.Ghost

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Buffers as pieces -/

/-- The chunks of the send buffer: the device's own slab's and the others'. -/
abbrev ofSlab : Fin 4 ⊕ (Fin 3 × Fin 4) → Fin 4 × Fin 4
  | .inl j => (0, j)
  | .inr t => (t.1.succ, t.2)
theorem ofSlab_bijective : Function.Bijective ofSlab := by decide +kernel

theorem over_slabs (Φ : Fin 4 × Fin 4 → sProp 𝕄) : bigSep Finset.univ Φ
    = iprop((bigSep Finset.univ fun j : Fin 4 => Φ (0, j)) ∗ bigSep Finset.univ fun t : Fin 3 × Fin 4 => Φ (t.1.succ, t.2)) := by
  rw [bigSep_univ_equiv (Equiv.ofBijective ofSlab ofSlab_bijective) Φ, bigSep_univ_sum]; rfl

/-- The send buffer is its chunks. -/
theorem xs_pieces (c : Dev nD) : (iprop(∃ f, xsM.view.loc (c : Thread nD τ) ↦{fullShare} f) : sProp 𝕄)
    ⊣⊢ iprop((bigSep Finset.univ fun j : Fin 4 => iprop(∃ f, xoPts c j f)) ∗ bigSep Finset.univ fun t : Fin 3 × Fin 4 => iprop(∃ f, xsPts c t.1 t.2 f)) := by
  have h := pieces_iff (F := F) c cc0_scratch0 (fun t : Fin 4 × Fin 4 => (xrR t.1 t.2).set) _ xr_pick
  rw [over_slabs] at h
  exact h

/-- The gather buffer is its chunks. -/
theorem xg_pieces (c : Dev nD) : (iprop(∃ f, xgM.view.loc (c : Thread nD τ) ↦{fullShare} f) : sProp 𝕄)
    ⊣⊢ bigSep Finset.univ fun t : Fin 3 × Fin 4 => iprop(∃ f, xgPts c t.1 t.2 f) :=
  pieces_iff (F := F) c cc0_scratch2 (fun t : Fin 3 × Fin 4 => (xgR t.1 t.2).set) _ xg_pick

/-- The maxima are their rows. -/
theorem am_pieces (c : Dev nD) : (iprop(∃ f, amM.view.loc (c : Thread nD τ) ↦{fullShare} f) : sProp 𝕄)
    ⊣⊢ iprop((∃ f, amM.view.loc (c : Thread nD τ) ↦[amM.view.setOn (amR 0).set]{fullShare} f)
        ∗ bigSep Finset.univ fun e : Fin 3 => iprop(∃ f, amPts c e.succ fullShare f)) := by
  have h := pieces_iff (F := F) c cc0_scratch5 (fun t : Fin 4 => (amR t).set) _ (fun t y => lead_pick (n := 4) (p := 1) (q := 128) t _ y)
  rw [four] at h
  rw [three]
  exact h

/-- The two staging buffers are their slots. -/
theorem fs_pieces (c : Dev nD) : (iprop(∃ f, fsM.view.loc (c : Thread nD τ) ↦{fullShare} f) : sProp 𝕄)
    ⊣⊢ iprop((∃ f, fsPts c 0 f) ∗ (∃ f, fsPts c 1 f)) := by
  have h := pieces_iff (F := F) c cc0_scratch1 (fun t : Fin 2 => (fsR t).set) _ (fun t y => lead_pick (n := 2) (p := 256) (q := 1024) t _ y)
  rw [two] at h
  exact h
theorem ws_pieces (c : Dev nD) : (iprop(∃ f, wsM.view.loc (c : Thread nD τ) ↦{fullShare} f) : sProp 𝕄)
    ⊣⊢ iprop((∃ f, wsPts c 0 f) ∗ (∃ f, wsPts c 1 f)) := by
  have h := pieces_iff (F := F) c cc0_scratch3 (fun t : Fin 2 => (wsR t).set) _ (fun t y => lead_pick (n := 2) (p := 512) (q := 2048) t _ y)
  rw [two] at h
  exact h

/-- The regions the three others write. -/
theorem landings (c : Dev nD) :
    iprop((bigSep Finset.univ fun t : Fin 3 × Fin 4 => iprop(∃ f, xgPts c t.1 t.2 f)) ∗ bigSep Finset.univ fun e : Fin 3 => iprop(∃ f, amPts c e.succ fullShare f))
      ⊢ (bigSep Finset.univ fun e : Fin 3 => ownLanding c e : sProp 𝕄) := by
  rw [twelve, three, three]; unfold ownLanding
  iintro ⟨⟨g00, g10, g20, g01, g11, g21, g02, g12, g22, g03, g13, g23⟩, a0, a1, a2⟩
  isplitl [g00 g01 g02 g03 a0]
  · iframe
  isplitl [g10 g11 g12 g13 a1]
  · iframe
  iframe

/-! ## The semaphores, by what is done with them -/

/-- Positions, tokens and credits as the kits of each copy and each wait. -/
theorem kits (c : Dev nD) :
    iprop((bigSep Finset.univ fun x : Kind4 => atPos ER (dcell c (semOf x)) 0 ∅ 0) ∗ payToks c ∗ credits c)
      ⊢ iprop((bigSep Finset.univ fun e : Fin 3 => dutyTok ER (barCell (fw c e)) 0 e) ∗ cred (tallyAt (barCell c) () 3)
          ∗ (bigSep Finset.univ fun t : Fin 3 × Fin 4 => sendKit c t.1 t.2) ∗ (bigSep Finset.univ fun e : Fin 3 => rowKit c e)
          ∗ (bigSep Finset.univ fun t : Fin 3 × Fin 4 => todo c (recvSem t.1 t.2)) ∗ (bigSep Finset.univ fun e : Fin 3 => todo c (arecvSem e))
          ∗ atPos ER (dcell c (25 : Fin 37)) 0 ∅ 0 ∗ atPos ER (dcell c (29 : Fin 37)) 0 ∅ 0 : sProp 𝕄) := by
  rw [over_kinds (fun q => atPos ER (dcell c q) 0 ∅ 0)]
  unfold payToks tokens credits sendKit rowKit todo
  simp only [bigSep_sep']
  iintro ⟨⟨p1, p2, p3, p4, p5, p6⟩, ⟨t1, t2, t3, t4, t5⟩, c1, c2, c3⟩
  iframe

/-! ## The body's two ends -/

set_option maxHeartbeats 4000000 in
/-- The families of pieces make what the body starts from. -/
theorem pre_of_families (K : Dev nD × Fin 33 → ℕ) (c : Dev nD) (W : Waits sig Unit) :
    iprop(owes (c : Thread nD τ) (owed c 0) W ∗ levAts L lv ∗ records m K ∗ (bigSep Finset.univ fun e : Fin 3 => dutyTok ER (barCell (fw c e)) 0 e)
        ∗ (bigSep Finset.univ fun e : Fin 3 => ownLanding c e) ∗ cred (tallyAt (barCell c) () 3) ∗ atPos ER (barCell c) 0 ∅ 0 ∗ argPts m c
        ∗ (bigSep Finset.univ fun t : Fin 3 × Fin 4 => sendKit c t.1 t.2) ∗ (bigSep Finset.univ fun e : Fin 3 => rowKit c e)
        ∗ (bigSep Finset.univ fun t : Fin 3 × Fin 4 => todo c (recvSem t.1 t.2)) ∗ (bigSep Finset.univ fun e : Fin 3 => todo c (arecvSem e))
        ∗ (bigSep Finset.univ fun t : Fin 3 × Fin 4 => iprop(∃ f, xsPts c t.1 t.2 f)) ∗ (bigSep Finset.univ fun j : Fin 4 => iprop(∃ f, xoPts c j f))
        ∗ (∃ f, amM.view.loc (c : Thread nD τ) ↦[amM.view.setOn (amR 0).set]{fullShare} f) ∗ ((∃ f, fsPts c 0 f) ∗ (∃ f, fsPts c 1 f)) ∗ ((∃ f, wsPts c 0 f) ∗ (∃ f, wsPts c 1 f))
        ∗ (∃ f, wbM.view.loc (c : Thread nD τ) ↦{fullShare} f) ∗ (∃ f, outM.view.loc (c : Thread nD τ) ↦{fullShare} f) ∗ locals c)
      ⊢ bodyPre m K c W := by
  unfold bodyPre locals
  simp only [twelve, three, four]
  iintro ⟨HO, #Hlev, #Hr, ⟨b0, b1, b2⟩, ⟨l0, l1, l2⟩, cb, ab, ar, ⟨k00, k10, k20, k01, k11, k21, k02, k12, k22, k03, k13, k23⟩, ⟨q0, q1, q2⟩,
    ⟨r00, r10, r20, r01, r11, r21, r02, r12, r22, r03, r13, r23⟩, ⟨s0, s1, s2⟩, ⟨x00, x10, x20, x01, x11, x21, x02, x12, x22, x03, x13, x23⟩,
    ⟨o0, o1, o2, o3⟩, am, ⟨f0, f1⟩, ⟨w0, w1⟩, wb, out, ⟨d33, d34, d35, d36⟩⟩
  iclose

set_option maxHeartbeats 4000000 in
/-- What the body leaves, as families of pieces. -/
theorem families_of_post (c : Dev nD) :
    bodyPost m c ⊢ iprop((∃ W, owes (c : Thread nD τ) (owed c 18) W) ∗ argPts m c ∗ (outM.view.loc (c : Thread nD τ) ↦{fullShare} outC m c)
        ∗ (bigSep Finset.univ fun t : Fin 3 × Fin 4 => closed c (sendSem t.1 t.2)) ∗ (bigSep Finset.univ fun t : Fin 3 × Fin 4 => closed c (recvSem t.1 t.2))
        ∗ (bigSep Finset.univ fun e : Fin 3 => closed c (asendSem e)) ∗ (bigSep Finset.univ fun e : Fin 3 => closed c (arecvSem e))
        ∗ semVal (barCell c) 0 ∗ locals c
        ∗ ((bigSep Finset.univ fun j : Fin 4 => iprop(∃ f, xoPts c j f)) ∗ bigSep Finset.univ fun t : Fin 3 × Fin 4 => iprop(∃ f, xsPts c t.1 t.2 f))
        ∗ (bigSep Finset.univ fun t : Fin 3 × Fin 4 => iprop(∃ f, xgPts c t.1 t.2 f))
        ∗ (∃ f, amM.view.loc (c : Thread nD τ) ↦{fullShare} f) ∗ ((∃ f, fsPts c 0 f) ∗ (∃ f, fsPts c 1 f)) ∗ ((∃ f, wsPts c 0 f) ∗ (∃ f, wsPts c 1 f))
        ∗ (∃ f, wbM.view.loc (c : Thread nD τ) ↦{fullShare} f)) := by
  unfold bodyPost locals
  simp only [twelve, three, four]
  iintro ⟨HO, ar, out, k00, k10, k20, k01, k11, k21, k02, k12, k22, k03, k13, k23, r00, r10, r20, r01, r11, r21, r02, r12, r22, r03, r13, r23,
    q0, q1, q2, s0, s1, s2, b, d33, d34, d35, d36, x00, x10, x20, x01, x11, x21, x02, x12, x22, x03, x13, x23, o0, o1, o2, o3,
    g00, g10, g20, g01, g11, g21, g02, g12, g22, g03, g13, g23, am, f0, f1, w0, w1, wb⟩
  isplitl [HO]; · iexact HO
  isplitl [ar]; · iexact ar
  isplitl [out]; · iexact out
  isplitl [k00 k10 k20 k01 k11 k21 k02 k12 k22 k03 k13 k23]; · iframe
  isplitl [r00 r10 r20 r01 r11 r21 r02 r12 r22 r03 r13 r23]; · iframe
  isplitl [q0 q1 q2]; · iframe
  isplitl [s0 s1 s2]; · iframe
  isplitl [b]; · iexact b
  isplitl [d33 d34 d35 d36]; · iframe
  isplitl [o0 o1 o2 o3 x00 x10 x20 x01 x11 x21 x02 x12 x22 x03 x13 x23]
  · isplitl [o0 o1 o2 o3]; · iclose
    iclose
  isplitl [g00 g10 g20 g01 g11 g21 g02 g12 g22 g03 g13 g23]; · iclose
  isplitl [am]; · iclose
  isplitl [f0 f1]; · iclose
  isplitl [w0 w1]; · iclose
  iclose

end Cert.KernelIdealProof
-- ==== Proof.KernelIdeal.Launch.lean ====
/-
# The launch, and the run of @main

The pipeline's proof data for the one-point grid with one result window, the body at its point, and the launch: every
fair execution of @main on the four devices ends, with each device's result at `outC`, its arguments unchanged and every
semaphore at zero.
-/
module

public import proofs.«01_k».proof.Proof.KernelIdeal.Assemble
public import proofs.«01_k».proof.Proof.Gen.KernelIdeal.Points
public import Idealize.ShloMosaic.Lib.Pipeline.ValueKit
public import Idealize.ShloMosaic.Lib.Pipeline.CollectiveSegs

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The proof data -/

/-- Before the point: the exchange's state, the credit owed to the device, the arguments, the scratch buffers. -/
def Φ₀ (c : Dev nD) : sProp 𝕄 :=
  iprop(G' m c ∗ credits c ∗ levAts L lv ∗ argPts m c ∗ Pipeline.scopedRest (Ix := Unit) (Name := ℕ) (U := UU) (Lvl := ℕ) (Val := Elt F) spec0 c)
/-- After the point: every semaphore at zero, the arguments, the scratch buffers. -/
def Φ₁ (c : Dev nD) : sProp 𝕄 :=
  iprop(argPts m c ∗ unscopedSems0 c ∗ Pipeline.ownSems0 (Ix := Unit) (Name := ℕ) (U := UU) (Lvl := ℕ) (Val := Elt F) (τ := τ) osem c
    ∗ Pipeline.scopedRest (Ix := Unit) (Name := ℕ) (U := UU) (Lvl := ℕ) (Val := Elt F) spec0 c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => outC m c
  Φ t := match t with
    | ⟨0, _⟩ => Φ₀ m c
    | ⟨_ + 1, _⟩ => Φ₁ m c
  q _ := fullShare
  owed t := match t with
    | ⟨0, _⟩ => owed c 0
    | ⟨_ + 1, _⟩ => 0

theorem fin_N (t : Fin cfg0.N) : t = t0_0 := by
  have h : cfg0.N = 1 := by decide
  obtain ⟨t, ht⟩ := t
  exact Fin.ext (by show t = 0; omega)

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-! ## The body at the point -/

/-- A cell of the exchange that carries nothing closes at once. -/
theorem close_idle (K : Dev nD × Fin 33 → ℕ) (c : Dev nD) (q : DmaSem sig) (hq : 1 ≤ q.val ∧ q.val ≤ 32) (hx : isX q.val = false) :
    iprop(records m K ∗ atPos ER (dcell c q) 0 ∅ 0) ⊢ (|={Set.univ}=> closed c q : sProp 𝕄) := by
  unfold closed
  iintro ⟨#Hr, Hat⟩
  ihave Hcell := (records_dma m K c q hq) $$ Hr
  icases Hcell with ⟨#HI, -⟩
  iapply (Rounds.cell_close ER (ringRd m) (Set.mem_univ (K (c, place q))) (fun h => h) (R := 0) (duties_idle m c q hx))
  isplitr; · iexact HI
  iexact Hat

/-- The staged result. -/
abbrev stg (c : Dev nD) (X : (cc0_stg0_0 : Ref sig .tc).ty.Contents (Elt F)) : sProp 𝕄 :=
  iprop(∃ f : Buf (Elt F) ((c : Thread nD τ).loc cc0_stg0_0), ⌜f = X⌝ ∗ (((c : Thread nD τ).loc cc0_stg0_0) ↦{fullShare} f))

theorem pre_intro (K : Dev nD × Fin 33 → ℕ) (c : Dev nD) (W : Waits sig Unit) :
    iprop(owes (c : Thread nD τ) (owed c 0) W ∗ records m K ∗ linear c ∗ credits c ∗ levAts L lv ∗ argPts m c
        ∗ Pipeline.scopedRest (Ix := Unit) (Name := ℕ) (U := UU) (Lvl := ℕ) (Val := Elt F) spec0 c ∗ (∃ f, outM.view.loc (c : Thread nD τ) ↦{fullShare} f))
      ⊢ iprop(bodyPre m K c W ∗ atPos ER (dcell c (25 : Fin 37)) 0 ∅ 0 ∗ atPos ER (dcell c (29 : Fin 37)) 0 ∅ 0) := by
  rw [scopedRest0_eq]
  unfold linear
  iintro ⟨HO, #Hr, ⟨ab, ak, tk, loc⟩, cr, #Hlev, ar, ⟨s0, s1, s2, s3, s4, s5⟩, out⟩
  ihave Hk := (kits (F := F) c) $$ [ak tk cr]
  · isplitl [ak]; · iexact ak
    isplitl [tk]; · iexact tk
    iexact cr
  icases Hk with ⟨bars, cb, sk, rk, tr, ta, p25, p29⟩
  ihave s0 := (xs_pieces (F := F) c).1 $$ s0
  icases s0 with ⟨xo, xs⟩
  ihave s1 := (fs_pieces (F := F) c).1 $$ s1
  ihave s2 := (xg_pieces (F := F) c).1 $$ s2
  ihave s3 := (ws_pieces (F := F) c).1 $$ s3
  ihave s5 := (am_pieces (F := F) c).1 $$ s5
  icases s5 with ⟨am0, am⟩
  ihave lnd := (landings (F := F) c) $$ [s2 am]
  · isplitl [s2]; · iexact s2
    iexact am
  isplitr [p25 p29]
  · iapply (pre_of_families m K c W)
    isplitl [HO]; · iexact HO
    isplitr; · iexact Hlev
    isplitr; · iexact Hr
    isplitl [bars]; · iexact bars
    isplitl [lnd]; · iexact lnd
    isplitl [cb]; · iexact cb
    isplitl [ab]; · iexact ab
    isplitl [ar]; · iexact ar
    isplitl [sk]; · iexact sk
    isplitl [rk]; · iexact rk
    isplitl [tr]; · iexact tr
    isplitl [ta]; · iexact ta
    isplitl [xs]; · iexact xs
    isplitl [xo]; · iexact xo
    isplitl [am0]; · iexact am0
    isplitl [s1]; · iexact s1
    isplitl [s3]; · iexact s3
    isplitl [s4]; · iexact s4
    isplitl [out]; · iexact out
    iexact loc
  · isplitl [p25]; · iexact p25
    iexact p29

theorem post_elim (c : Dev nD) :
    iprop(bodyPost m c ∗ closed c (25 : Fin 37) ∗ closed c (29 : Fin 37))
      ⊢ iprop(Φ₁ m c ∗ (∃ W, owes (c : Thread nD τ) (owed c 18) W) ∗ (outM.view.loc (c : Thread nD τ) ↦{fullShare} outC m c)) := by
  unfold Φ₁
  rw [scopedRest0_eq, ownSems0_eq, unscopedSems0_eq, over_kinds (fun q => closed c q)]
  iintro ⟨Hp, c25, c29⟩
  ihave Hp := (families_of_post m c) $$ Hp
  icases Hp with ⟨HO, ar, out, k, r, q, s, b, loc, xs, xg, am, fs, ws, wb⟩
  isplitr [HO out]
  · isplitl [ar]; · iexact ar
    isplitl [b]; · iexact b
    isplitl [k r q s c25 c29 loc]
    · isplitr [loc]
      · isplitl [k]; · iexact k
        isplitl [r]; · iexact r
        isplitl [q]; · iexact q
        isplitl [s]; · iexact s
        isplitl [c25]; · iexact c25
        iexact c29
      iexact loc
    isplitl [xs]; · iapply (xs_pieces (F := F) c).2; iexact xs
    isplitl [fs]; · iapply (fs_pieces (F := F) c).2; iexact fs
    isplitl [xg]; · iapply (xg_pieces (F := F) c).2; iexact xg
    isplitl [ws]; · iapply (ws_pieces (F := F) c).2; iexact ws
    isplitl [wb]; · iexact wb
    iexact am
  isplitl [HO]; · iexact HO
  iexact out

/-- The body at the point, from `Φ₀` to `Φ₁`. -/
theorem body_at (c : Dev nD) (X : (cc0_stg0_0 : Ref sig .tc).ty.Contents (Elt F) → (cc0_stg0_0 : Ref sig .tc).ty.Contents (Elt F)) :
    iprop(Φ₀ m c ∗ (dats m ρ 0 c).owesAt () t0_0.castSucc ∗ (∃ d, stg c (X d)))
      ⊢ wp frame (wpE (defs₀ (F := F)) 𝒱₀ c none) Set.univ
          (cc0_body (Memref.whole main_arg0) (Memref.isWhole_whole _) (Memref.whole main_arg1) (Memref.isWhole_whole _) (Memref.whole cc0_stg0_0) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            cc0_scratch6 cc0_scratch7 cc0_scratch8 cc0_scratch9 cc0_scratch10 cc0_scratch11)
          (fun _ => iprop(Φ₁ m c ∗ (dats m ρ 0 c).owesAt () t0_0.succ ∗ stg c (outC m c))) := by
  unfold Φ₀ G' Dat.owesAt Pipeline.owesWithin
  rw [show (dats m ρ 0 c).owed t0_0.castSucc = owed c 0 from rfl, show (dats m ρ 0 c).owed t0_0.succ = owed c 18 from rfl]
  iintro ⟨⟨⟨%K, #Hr, Hlin⟩, Hcr, Hlev, Har, Hscr⟩, ⟨%W, -, HO⟩, ⟨%d, %f, -, Hout⟩⟩
  ihave Hpre := (pre_intro m K c W) $$ [HO Hlin Hcr Hlev Har Hscr Hout]
  · isplitl [HO]; · iexact HO
    isplitr; · iexact Hr
    isplitl [Hlin]; · iexact Hlin
    isplitl [Hcr]; · iexact Hcr
    isplitl [Hlev]; · iexact Hlev
    isplitl [Har]; · iexact Har
    isplitl [Hscr]; · iexact Hscr
    iexists f; iexact Hout
  icases Hpre with ⟨Hpre, p25, p29⟩
  imod (close_idle m K c (25 : Fin 37) (by decide) (by decide)) $$ [p25] with c25
  · isplitr; · iexact Hr
    iexact p25
  imod (close_idle m K c (29 : Fin 37) (by decide) (by decide)) $$ [p29] with c29
  · isplitr; · iexact Hr
    iexact p29
  iapply (body_run m K c _ W)
  isplitl [Hpre]; · iexact Hpre
  iintro Hpost
  ihave Hend := (post_elim m c) $$ [Hpost c25 c29]
  · isplitl [Hpost]; · iexact Hpost
    isplitl [c25]; · iexact c25
    iexact c29
  icases Hend with ⟨Hphi, ⟨%W', HO⟩, Hout⟩
  isplitl [Hphi]; · iexact Hphi
  isplitl [HO]
  · iexists W'
    isplitr; · ipureintro; exact fun _ _ => Or.inl trivial
    iexact HO
  iexists (outC m c); isplitr; · (ipureintro; rfl)
  iexact Hout

set_option maxRecDepth 40000 in
/-- The library's obligation for the body. -/
theorem body_obligation (c : Dev nD) : BodyObligation (dats (F := F) m ρ 0 c) (defs₀ (F := F)) 𝒱₀ () Set.univ := fun t => by
  rw [fin_N t]
  rw [bigSep_W0, bigSep_W0]
  simp only [owns_whole_eq]
  exact body_at m ρ c fun d => (dats m ρ 0 c).before (0 : Fin 1) t0_0 d

/-! ## The launch -/

theorem ownSemFacts : Pipeline.OwnSemFacts cfg0.spec osem := by decide

theorem share_eq (c : Dev nD) (w : Fin cfg0.W) : (dats m ρ 0 c).share w = fullShare := by unfold Dat.share; split <;> rfl

def u₀ : UU :=
  (initOf (Pipeline.cells cfgs cellOf_inj) (Pipeline.launchToks cfgs cellOf_inj), (initOf ringCells ringToks, 1))

/-- The arguments as the launch hands them over. -/
theorem args_halves (c : Dev nD) :
    iprop((((c : Thread nD τ).loc main_arg0) ↦{fullShare} m ((c : Thread nD τ).loc main_arg0)) ∗ (((c : Thread nD τ).loc main_arg1) ↦{fullShare} m ((c : Thread nD τ).loc main_arg1)))
      ⊢ (argPts m c : sProp 𝕄) := by
  unfold argPts
  iintro ⟨h0, h1⟩
  ihave h0 := (pointsTo_share (PosShare.mem_left_op_right fullShare)).1 $$ h0
  ihave h1 := (pointsTo_share (PosShare.mem_left_op_right fullShare)).1 $$ h1
  icases h0 with ⟨h0l, h0r⟩
  icases h1 with ⟨h1l, h1r⟩
  isplitl [h0l]; · iexact h0l
  isplitl [h0r]; · iexact h0r
  isplitl [h1l]; · iexact h1l
  iexact h1r

theorem start_intro (c : Dev nD) :
    iprop(Pipeline.unscopedRestP Pipeline.Prefetch.none cfg0.spec c (fun b => m ((c : Thread nD τ).loc b)) ∗ levAts L lv
        ∗ Pipeline.launchCred (fun d => owed d 0) c ∗ prngReg c (ρ c) ∗ G' m c)
      ⊢ |={Set.univ}=> iprop((G' m c ∗ credits c ∗ levAts L lv ∗ argPts m c) ∗ emp) := by
  rw [show (Pipeline.unscopedRestP (Ix := Unit) (Name := ℕ) (U := UU) (Lvl := ℕ) Pipeline.Prefetch.none cfg0.spec c (fun b => m ((c : Thread nD τ).loc b)) : sProp 𝕄)
      = Pipeline.unscopedRest (Ix := Unit) (Name := ℕ) (U := UU) (Lvl := ℕ) spec0 c (fun b => m ((c : Thread nD τ).loc b)) from rfl, unscopedRest0_eq]
  iintro ⟨Ha, Hlev, Hcr, -, HG⟩
  ihave Hc := (creds (F := F) c) $$ Hcr
  ihave Ha := (args_halves m c) $$ Ha
  imodintro
  isplitl
  · isplitl [HG]; · iexact HG
    isplitl [Hc]; · iexact Hc
    isplitl [Hlev]; · iexact Hlev
    iexact Ha
  · iempintro

theorem phi0_intro (c : Dev nD) :
    iprop((G' m c ∗ credits c ∗ levAts L lv ∗ argPts m c) ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl]
  unfold Φ₀
  iintro ⟨⟨HG, Hc, Hlev, Ha⟩, -, Hr⟩
  isplitl [HG]; · iexact HG
  isplitl [Hc]; · iexact Hc
  isplitl [Hlev]; · iexact Hlev
  isplitl [Ha]; · iexact Ha
  iexact Hr

theorem phi1_exit (c : Dev nD) :
    (dats m ρ 0 c).Φ (Fin.last cfg0.N) ⊢ iprop((argPts m c ∗ unscopedSems0 c) ∗ Pipeline.ownSems0 osem c ∗ Pipeline.scopedRest cfg0.spec c) := by
  rw [show (dats m ρ 0 c).Φ (Fin.last cfg0.N) = Φ₁ m c from rfl]
  unfold Φ₁
  iintro ⟨Ha, Hu, Ho, Hr⟩
  isplitl [Ha Hu]
  · isplitl [Ha]; · iexact Ha
    iexact Hu
  isplitl [Ho]; · iexact Ho
  iexact Hr

theorem waits (c : Dev nD) : (levAts L lv : sProp 𝕄) ⊢ Pipeline.cellsWaits cfgs (dats m ρ) () 0 c :=
  Pipeline.cellsWaits_intro cfgs (dats m ρ) () 0 c fun w s t => by
    have hl : lvOf (.dma ((cfg0.win w).sem s)) = 0 := by fin_cases w <;> fin_cases s <;> decide
    rcases t with ⟨_ | n, ht⟩
    · exact mayWait_low c _ hl 0
    · exact mayWait_low c _ hl 18

/-- The run's post: the result at `outC`, the arguments as they were. -/
def Done (c : Dev nD) (s : MemSt nD τ sig (Elt F)) : Prop :=
  s.mem ((c : Thread nD τ).loc main_v1) = outC m c ∧ s.mem ((c : Thread nD τ).loc main_arg0) = m ((c : Thread nD τ).loc main_arg0)
    ∧ s.mem ((c : Thread nD τ).loc main_arg1) = m ((c : Thread nD τ).loc main_arg1)

/-- The result array after the run is the staged result written whole. -/
theorem result_eq (c : Dev nD) : (dats m ρ 0 c).arrAt (0 : Fin 1) cfg0.N = outC m c := by
  refine (dats m ρ 0 c).arrAt_eq_of_after_last (0 : Fin 1) t0_0 (by decide +kernel) _ fun j => ?_
  blk_simp
  rfl

set_option maxRecDepth 100000 in
/-- At the mesh of four devices, for any float values, from any memory with every semaphore at zero: every fair execution
    of @main ends, with each device's result at `outC`, its arguments as they were, and every semaphore at zero. -/
theorem run_main : θ_run defs (onTc (τ := τ) (main (F := F))) (s₀ m ρ) (fun r => (∀ c : Dev nD, Done m c r.2) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := fun d => owed d 0) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      ihave HX := (own_pair_emb embR _ _) $$ HX
      icases HX with ⟨HX, -⟩
      imod (show BI.own (((Emb.inl : Emb UB (UB × Counters)).trans embR) (initOf ringCells ringToks)) ⊢ (|==> bigSep Finset.univ (G m) : sProp 𝕄) from fund_ring m) $$ HX with HG
      imodintro
      isplitl [HP] <;> iassumption)
    (hglob := glob m)
    (hA := fun _ _ => rfl) (hpf := fun _ k => k.elim0)
    (X := fun c => iprop(G' m c ∗ credits c ∗ levAts L lv ∗ argPts m c)) (Y := fun c => iprop(argPts m c ∗ unscopedSems0 c)) (Z := fun _ => iprop(emp))
    (hX := start_intro m ρ) (hin := phi0_intro m ρ) (hout := phi1_exit m ρ)
    (QY := fun c s => (s.mem ((c : Thread nD τ).loc main_arg0) = m ((c : Thread nD τ).loc main_arg0) ∧ s.mem ((c : Thread nD τ).loc main_arg1) = m ((c : Thread nD τ).loc main_arg1))
      ∧ ∀ sm : SemLoc sig, sm.isScoped .tc = false → s.sem ((c.tc : Thread nD τ), sm) = 0)
    (hY := fun c s' => by
      unfold argPts
      iintro ⟨⟨⟨H0, -, H1, -⟩, Hu⟩, -, HSI⟩
      icombine HSI H0 gives %h0
      icombine HSI H1 gives %h1
      imod (Pipeline.unscopedSems0_read (X := unscopedSems0 c) (c := c) fupd_intro s') $$ [Hu HSI] with ⟨%hz, HSI⟩
      · isplitl [Hu] <;> iassumption
      imodintro
      isplitr; · ipureintro; exact ⟨⟨Buf.eq_of_forall_mem_univ h0, Buf.eq_of_forall_mem_univ h1⟩, hz⟩
      iexact HSI)
    (hQ := fun _ h hs => ⟨fun c => ⟨((h c).1 (0 : Fin 1)).trans (result_eq m ρ c), (h c).2.2.1.1, (h c).2.2.1.2⟩, sem_eq_zero hs fun c => (h c).2.2.2⟩)

end Cert.KernelIdealProof
-- ==== Proof.Kernel.Same.lean ====
/-
# The kernel over bits is the kernel over the extended reals

The idealization rewrites no operation, so the two printed programs are one program at any float values, and what is
proved of the one's run at any float values is proved of the other's.
-/
module

public import proofs.«01_k».proof.Proof.KernelIdeal.Launch
public import proofs.«01_k».proof.Proof.Gen.Kernel.Points

@[expose] public section

noncomputable section

namespace Cert.KernelProof

open Idealize.ShloMosaic Idealize.ShloMosaic.TcCoe Idealize.SL.Sem

variable {F : FTy → Type} [FloatOps F]

set_option maxRecDepth 100000 in
/-- The two bodies are one, -/
theorem body_eq : Cert.Kernel.cc0_body (F := F) = Cert.KernelIdeal.cc0_body (F := F) := rfl

/-- the two tables of bodies, -/
theorem defs₀_eq : Cert.Kernel.defs₀ (F := F) = Cert.KernelIdeal.defs₀ (F := F) := by
  unfold Cert.Kernel.defs₀ Cert.KernelIdeal.defs₀
  refine congrArg Defs.onTc (funext fun l => funext fun a => ?_)
  match l, a with
  | 0, (t, s) => rw [body_eq]

/-- with their pipelines, -/
theorem defs_eq : Cert.Kernel.defs (F := F) = Cert.KernelIdeal.defs (F := F) :=
  congrArg (Pipeline.defs (Cert.KernelIdeal.pcfgs (F := F))) defs₀_eq

/-- and the two programs. -/
theorem main_eq : Cert.Kernel.main (F := F) = Cert.KernelIdeal.main (F := F) := rfl

/-- At any float values every fair execution of the kernel on the four devices ends, with the arguments unchanged and every
    semaphore at zero. -/
theorem frame (m : (ℓ : Loc Cert.Kernel.nD Cert.Kernel.τ Cert.Kernel.sig) → Buf (Elt F) ℓ) (ρ : Dev Cert.Kernel.nD → PrngReg) :
    θ_run (Cert.Kernel.defs (F := F)) (onTc (τ := Cert.Kernel.τ) (Cert.Kernel.main (F := F))) ⟨m, fun _ => 0, ρ⟩ (fun r =>
      (∀ c : Dev Cert.Kernel.nD,
        r.2.mem ((c : Thread Cert.Kernel.nD Cert.Kernel.τ).loc Cert.Kernel.main_arg0) = m ((c : Thread Cert.Kernel.nD Cert.Kernel.τ).loc Cert.Kernel.main_arg0)
        ∧ r.2.mem ((c : Thread Cert.Kernel.nD Cert.Kernel.τ).loc Cert.Kernel.main_arg1) = m ((c : Thread Cert.Kernel.nD Cert.Kernel.τ).loc Cert.Kernel.main_arg1))
      ∧ r.2.sem = fun _ => 0) := by
  rw [defs_eq]
  exact (θ_run (Cert.KernelIdeal.defs (F := F)) (onTc (τ := Cert.KernelIdeal.τ) (Cert.KernelIdeal.main (F := F))) _).mono
    (fun _ h => ⟨fun c => (h.1 c).2, h.2⟩) (Cert.KernelIdealProof.run_main (F := F) m ρ)

end Cert.KernelProof

end
-- ==== Proof.Quantiser.lean ====
/-
# The mathematics of the problem over the extended reals

The product clipped below at zero, its greatest element, and the dynamic quantiser; the two ways the programs write a
quantised element agree; a sum over 4096 columns is four sums over 1024.
-/
module

public import Idealize.ShloMosaic.Lib.Pointwise
public import Idealize.ShloMosaic.PureOps.Ideal.Laws

@[expose] public section

noncomputable section

namespace Cert.Quantiser

open Idealize.ShloMosaic
open scoped BigOperators

/-! ## The constants -/

theorem word_bot : Ideal.ofBits .f32 0xFF800000#32 = (⊥ : EReal) := by
  simp [Ideal.ofBits, Ideal.ieee]

theorem word_448 : Ideal.ofBits .f32 0x43E00000#32 = ((448 : ℝ) : EReal) := by
  simp [Ideal.ofBits, Ideal.ieee]
  rw [← EReal.coe_mul]; norm_num

theorem word_neg448 : Ideal.ofBits .f32 0xC3E00000#32 = ((-448 : ℝ) : EReal) := by
  simp [Ideal.ofBits, Ideal.ieee]
  rw [← EReal.coe_mul]; norm_num

/-! ## The quantiser -/

/-- The scale of an array whose greatest element is `a`. -/
def scale (a : EReal) : EReal := Ideal.div a ((448 : ℝ) : EReal)

/-- An element divided by the scale, clipped to the format's range, and multiplied back. -/
def quant (a y : EReal) : EReal :=
  min ((448 : ℝ) : EReal) (max ((-448 : ℝ) : EReal) (Ideal.div y (scale a))) * scale a

/-- Of an element between zero and the greatest, multiplying by the scale's reciprocal and back is the quantiser: the
    clipping changes nothing. A zero scale has only zero elements, and an infinite scale takes every element to zero. -/
theorem quant_eq (a y : EReal) (h0 : 0 ≤ y) (hy : y ≤ a) : y * Ideal.div 1 (scale a) * scale a = quant a y := by
  have h448 : (((448 : ℝ) : EReal) = 0) = False := eq_false (by norm_cast)
  unfold quant
  induction a with
  | bot => exact absurd (h0.trans hy) (by simp)
  | top =>
    have hs : scale ⊤ = ⊤ := by
      unfold scale Ideal.div
      rw [if_neg (by rw [h448]; exact id), ← EReal.coe_inv]
      exact EReal.top_mul_coe_of_pos (by norm_num)
    have hd (z : EReal) : Ideal.div z ⊤ = 0 := by
      unfold Ideal.div
      rw [if_neg EReal.top_ne_zero, EReal.inv_top, mul_zero]
    rw [hs, hd, hd, mul_zero, max_eq_right (by norm_cast), min_eq_right (by norm_cast)]
  | coe r =>
    have hs : scale (r : EReal) = ((r / 448 : ℝ) : EReal) := by
      unfold scale Ideal.div
      rw [if_neg (by rw [h448]; exact id), ← EReal.coe_inv, ← EReal.coe_mul, div_eq_mul_inv]
    induction y with
    | bot => exact absurd h0 (by simp)
    | top => exact absurd hy (by simp)
    | coe v =>
      have hv : 0 ≤ v := by exact_mod_cast h0
      have hvr : v ≤ r := by exact_mod_cast hy
      rw [hs]
      rcases hv.trans hvr |>.eq_or_lt with hr | hr
      · have hv0 : v = 0 := by linarith
        subst hr hv0
        simp
      · have hs0 : (0 : ℝ) < r / 448 := by positivity
        have hd (z : ℝ) : Ideal.div (z : EReal) ((r / 448 : ℝ) : EReal) = ((z * (r / 448)⁻¹ : ℝ) : EReal) := by
          unfold Ideal.div
          rw [if_neg (by exact_mod_cast hs0.ne'), ← EReal.coe_inv, ← EReal.coe_mul]
        have h1 := hd 1
        rw [EReal.coe_one] at h1
        have hlo : (-448 : ℝ) ≤ v * (r / 448)⁻¹ := le_trans (by norm_num) (mul_nonneg hv (inv_nonneg.mpr hs0.le))
        have hhi : v * (r / 448)⁻¹ ≤ 448 := by
          rw [← div_eq_mul_inv, div_le_iff₀ hs0]; linarith
        rw [h1, hd, max_eq_right (by exact_mod_cast hlo), min_eq_right (by exact_mod_cast hhi), one_mul, ← EReal.coe_mul]

/-! ## The product and its greatest element -/

variable (x : (⟨2, ![4096, 4096]⟩ : Shape).Idx → EReal) (w : (⟨2, ![4096, 2048]⟩ : Shape).Idx → EReal)

/-- Element `(r, k)` of the product of `x` and `w`, clipped below at zero. -/
def relu (r : Fin 4096) (k : Fin 2048) : EReal := max (∑ i : Fin 4096, x (ix2 r i) * w (ix2 i k)) 0

theorem relu_nonneg (r : Fin 4096) (k : Fin 2048) : 0 ≤ relu x w r k := le_max_right _ _

/-- The greater of `u` and a family's greatest element, by its bounds. -/
theorem fold_le {R K : Type} [Fintype R] [Fintype K] (u : EReal) (f : R → K → EReal) (z : EReal) :
    max u (Finset.univ.fold max ⊥ fun p : R × K => f p.1 p.2) ≤ z ↔ u ≤ z ∧ ∀ r k, f r k ≤ z := by
  rw [max_le_iff, Finset.fold_max_le]
  exact and_congr_right fun _ => ⟨fun h r k => h.2 (r, k) (Finset.mem_univ _), fun h => ⟨bot_le, fun p _ => h _ _⟩⟩

/-- The greatest absolute value of a family of nonnegative numbers is the least bound of the numbers. -/
theorem fold_abs_le {R K : Type} [Fintype R] [Fintype K] (f : R → K → EReal) (hf : ∀ r k, 0 ≤ f r k) (z : EReal) :
    (Finset.univ.fold max ⊥ fun p : R × K => max (f p.1 p.2) (-f p.1 p.2)) ≤ z ↔ ∀ r k, f r k ≤ z := by
  rw [Finset.fold_max_le]
  constructor
  · intro h r k
    exact (max_le_iff.mp (h.2 (r, k) (Finset.mem_univ _))).1
  · intro h
    refine ⟨bot_le, fun p _ => max_le_iff.mpr ⟨h _ _, ?_⟩⟩
    have hn : -f p.1 p.2 ≤ -0 := EReal.neg_le_neg_iff.mpr (hf p.1 p.2)
    rw [neg_zero] at hn
    exact hn.trans ((hf p.1 p.2).trans (h _ _))

/-- The greatest absolute value of the clipped product. -/
def amax : EReal := Finset.univ.fold max ⊥ fun p : Fin 4096 × Fin 2048 => max (relu x w p.1 p.2) (-relu x w p.1 p.2)

/-- It is the least bound of the elements, which are their own absolute values. -/
theorem amax_le (z : EReal) : amax x w ≤ z ↔ ∀ r k, relu x w r k ≤ z := fold_abs_le _ (relu_nonneg x w) z

theorem relu_le_amax (r : Fin 4096) (k : Fin 2048) : relu x w r k ≤ amax x w := (amax_le x w _).mp le_rfl r k

/-- The problem's result: every element of the clipped product quantised and dequantised. -/
def result : (⟨2, ![4096, 2048]⟩ : Shape).Idx → EReal := fun i => quant (amax x w) (relu x w (i 0) (i 1))

/-! ## Indices and blocks of columns -/

/-- Two indices of a matrix with equal coordinates are equal. -/
theorem ext2 {n0 n1 : Nat} (f g : (⟨2, ![n0, n1]⟩ : Shape).Idx) (h0 : (f 0).val = (g 0).val) (h1 : (f 1).val = (g 1).val) : f = g :=
  funext fun a => Fin.ext (match a with | ⟨0, _⟩ => h0 | ⟨1, _⟩ => h1)

/-- Column `k` of block `b`. -/
def col (b : Fin 4) (k : Fin 1024) : Fin 4096 := ⟨b.val * 1024 + k.val, by omega⟩

/-- A sum over the columns, block by block. -/
theorem sum_blocks (f : Fin 4096 → EReal) : ∑ i : Fin 4096, f i = ∑ b : Fin 4, ∑ k : Fin 1024, f (col b k) := by
  rw [← Fintype.sum_prod_type' (f := fun (b : Fin 4) (k : Fin 1024) => f (col b k))]
  refine (Fintype.sum_equiv (finProdFinEquiv (m := 4) (n := 1024)) _ f fun p => congrArg f (Fin.ext ?_)).symm
  show p.1.val * 1024 + p.2.val = p.2.val + 1024 * p.1.val
  omega

end Cert.Quantiser

end
-- ==== Proof.KernelIdeal.Value.lean ====
/-
# What the kernel computes over the extended reals

When the devices hold the column blocks of `X` and all of `W`, each device's result is its row block of the problem's
result.
-/
module

public import proofs.«01_k».proof.Proof.Quantiser
public import proofs.«01_k».proof.Proof.KernelIdeal.Protocol
public import Idealize.ShloMosaic.Lib.Layout

@[expose] public section

noncomputable section

namespace Cert.KernelIdealProof

open Cert.KernelIdeal Cert.KernelIdeal.Gen Idealize.ShloMosaic Idealize.ShloMosaic.TcCoe Idealize.SL.Sem
open Cert.Quantiser
open scoped BigOperators

/-! ## The body's vector operations, read at an element -/

/-- One product of a chunk's rows with a block of `W`'s rows. -/
def part (a : Vec Ideal S1x256x1024 .bf16) (b : Vec Ideal S1024x2048 .bf16) (i : S256x2048.Idx) : EReal :=
  ∑ k : Fin 1024, a (ix3 0 (i 0) k) * b (ix2 k (i 1))

theorem pay28_at (a : Vec Ideal S1x256x1024 .bf16) (b : Vec Ideal S1024x2048 .bf16) (i : S256x2048.Idx) :
    k0_pay28 a b i = part a b i := by
  unfold part
  pointwise [k0_pay28]

theorem pay29_at (v : FVec Ideal S256x2048 .f32) (a : Vec Ideal S1x256x1024 .bf16) (b : Vec Ideal S1024x2048 .bf16) (i : S256x2048.Idx) :
    k0_pay29 v a b i = v i + part a b i := by
  unfold part
  pointwise [k0_pay29]

theorem pay30_at (v : FVec Ideal S256x2048 .f32) (a : Vec Ideal S1x256x1024 .bf16) (b : Vec Ideal S1024x2048 .bf16) (i : S256x2048.Idx) :
    k0_pay30 v a b i = v i + part a b i := by
  unfold part
  pointwise [k0_pay30]

theorem pay31_at (v : FVec Ideal S256x2048 .f32) (a : Vec Ideal S1x256x1024 .bf16) (b : Vec Ideal S1024x2048 .bf16) (i : S256x2048.Idx) :
    k0_pay31 v a b i = max (v i + part a b i) 0 := by
  unfold part
  pointwise [k0_pay31]

/-- The first chunk's maximum, from zero, by its bounds; and a later chunk's, from the maximum before. -/
theorem pay32_le (v : FVec Ideal S256x2048 .f32) (a : Vec Ideal S1x256x1024 .bf16) (b : Vec Ideal S1024x2048 .bf16) (z : EReal) :
    k0_pay32 v a b ≤ z ↔ 0 ≤ z ∧ ∀ r k, k0_pay31 v a b (ix2 r k) ≤ z := by
  pointwise [k0_pay32]
  rw [word_bot]
  exact fold_le (R := Fin 256) (K := Fin 2048) 0 (fun r k => k0_pay31 v a b (ix2 r k)) z

theorem pay38_le (u : EReal) (v : FVec Ideal S256x2048 .f32) (a : Vec Ideal S1x256x1024 .bf16) (b : Vec Ideal S1024x2048 .bf16) (z : EReal) :
    k0_pay38 u v a b ≤ z ↔ u ≤ z ∧ ∀ r k, k0_pay31 v a b (ix2 r k) ≤ z := by
  have h : k0_pay37 v a b = k0_pay31 v a b := rfl
  pointwise [k0_pay38]
  rw [word_bot, h]
  exact fold_le (R := Fin 256) (K := Fin 2048) u (fun r k => k0_pay31 v a b (ix2 r k)) z

/-- The greatest of the four devices' maxima. -/
def top4 (a : Vec Ideal S4x1x128 .f32) : EReal :=
  Finset.fold max ⊥ (fun x : S1x4x1x128.Idx => a (ix3 (x 1) 0 (x 3))) (Finset.univ.filter fun i => reduces_S1x4x1x128_S1.drop i = ix1 0)

theorem pay1_at (a : Vec Ideal S4x1x128 .f32) (y : Vec Ideal S1024x2048 .f32) (i : S1024x2048.Idx) :
    k0_pay1 a y i = y i * Ideal.div 1 (scale (top4 a)) * scale (top4 a) := by
  pointwise [k0_pay1]
  rw [word_bot, word_448]
  rfl

theorem top4_le (a : Vec Ideal S4x1x128 .f32) (z : EReal) : top4 a ≤ z ↔ ∀ (d : Fin 4) (l : Fin 128), a (ix3 d 0 l) ≤ z := by
  unfold top4
  rw [Finset.fold_max_le]
  constructor
  · intro h d l
    exact h.2 (ix4 0 d 0 l) (Finset.mem_filter.mpr ⟨Finset.mem_univ _, funext fun b => match b with | ⟨0, _⟩ => Subsingleton.elim (α := Fin 1) _ _⟩)
  · intro h
    exact ⟨bot_le, fun i _ => h (i 1) (i 3)⟩

/-! ## The contents, read at an element -/

variable (m : (ℓ : Loc nD τ sig) → Buf (Elt Ideal) ℓ)
variable (X : (⟨2, ![4096, 4096]⟩ : Shape).Idx → EReal) (W : (⟨2, ![4096, 2048]⟩ : Shape).Idx → EReal)

/-- The whole arrays are cut into the devices' blocks of columns and of rows. -/
theorem tiles_cols : Layout.Tiles ⟨2, ![4096, 1024]⟩ ⟨2, ![4096, 4096]⟩ 1 4 := by decide
theorem tiles_rows : Layout.Tiles ⟨2, ![1024, 2048]⟩ ⟨2, ![4096, 2048]⟩ 0 4 := by decide

/-- Row `r` of chunk `j` of device `c`'s rows, in the whole array. -/
def row (c : Dev nD) (j : Fin 4) (r : Fin 256) : Fin 4096 :=
  ⟨c.val * 1024 + (j.val * 256 + r.val), by have : c.val < 4 := c.isLt; omega⟩

/-- A device and the three before it are all four. -/
theorem sum_around (c : Dev nD) (f : Fin 4 → EReal) : f c + f (bw c 0) + f (bw c 1) + f (bw c 2) = ∑ b : Fin 4, f b := by
  rw [Fin.sum_univ_four]
  fin_cases c
  · show f 0 + f 3 + f 2 + f 1 = _; ac_rfl
  · show f 1 + f 0 + f 3 + f 2 = _; ac_rfl
  · show f 2 + f 1 + f 0 + f 3 = _; ac_rfl
  · show f 3 + f 2 + f 1 + f 0 = _; ac_rfl

section
variable (hX : ∀ c : Dev nD, m ((c : Thread nD τ).loc main_arg0) = Layout.block ⟨2, ![4096, 1024]⟩ ⟨2, ![4096, 4096]⟩ 1 4 c X tiles_cols)
  (hW : ∀ c : Dev nD, m ((c : Thread nD τ).loc main_arg1) = W)
include hX hW

/-- The product with block `b`: the part of the whole product's sum over that block's columns. -/
theorem part_eq (c b : Dev nD) (j : Fin 4) (r : Fin 256) (k : Fin 2048) :
    part (opA m b c j) (opB m c b) (ix2 r k) = ∑ i : Fin 1024, X (ix2 (row c j r) (col b i)) * W (ix2 (col b i) k) := by
  unfold part
  refine Finset.sum_congr rfl fun i _ => ?_
  have ha : opA m b c j (ix3 0 r i) = X (ix2 (row c j r) (col b i)) := by
    show m ((b : Thread nD τ).loc main_arg0) _ = _
    rw [hX b]
    exact congrArg X (ext2 _ _ rfl rfl)
  have hb : opB m c b (ix2 i k) = W (ix2 (col b i) k) := by
    show m ((c : Thread nD τ).loc main_arg1) _ = _
    rw [hW c]
    exact congrArg W (ext2 _ _ rfl rfl)
  exact congrArg₂ (· * ·) ha hb

/-- A chunk holds its rows of the clipped product. -/
theorem chunk_eq (c : Dev nD) (j : Fin 4) (r : Fin 256) (k : Fin 2048) :
    chunk m c j (ix2 r k) = relu X W (row c j r) k := by
  unfold chunk acc
  rw [pay31_at, pay30_at, pay29_at, pay28_at]
  simp only [part_eq m X W hX hW]
  unfold relu
  rw [sum_blocks, ← sum_around c fun b => ∑ i, X (ix2 (row c j r) (col b i)) * W (ix2 (col b i) k)]

/-- The rows before they are quantised. -/
theorem yC_eq (c : Dev nD) (i : S1024x2048.Idx) :
    yC m c i = relu X W ⟨c.val * 1024 + (i 0).val, by have : c.val < 4 := c.isLt; have : (i 0).val < 1024 := (i 0).isLt; omega⟩ (i 1) := by
  have h1024 : (i 0).val < 1024 := (i 0).isLt
  have h := chunk_eq m X W hX hW c ⟨(i 0).val / 256, by omega⟩ ⟨(i 0).val % 256, Nat.mod_lt _ (by decide)⟩ (i 1)
  have hp : (Shape.pair (d := ![256, 2048]) ⟨(i 0).val % 256, Nat.mod_lt _ (by decide)⟩ (i 1) : S256x2048.Idx)
      = ix2 ⟨(i 0).val % 256, Nat.mod_lt _ (by decide)⟩ (i 1) := ext2 _ _ rfl rfl
  refine (congrArg (chunk m c ⟨(i 0).val / 256, by omega⟩) hp).trans (h.trans (congrArg (fun r => relu X W r (i 1)) (Fin.ext ?_)))
  show c.val * 1024 + ((i 0).val / 256 * 256 + (i 0).val % 256) = c.val * 1024 + (i 0).val
  omega

/-- A device's maximum is the least bound of zero and of its rows. -/
theorem mx_le (c : Dev nD) (z : EReal) : mx m c ≤ z ↔ 0 ≤ z ∧ ∀ j r k, relu X W (row c j r) k ≤ z := by
  have hc : ∀ (j : Fin 4) (r : Fin 256) (k : Fin 2048),
      k0_pay31 (acc m c j) (opA m (bw c 2) c j) (opB m c (bw c 2)) (ix2 r k) = relu X W (row c j r) k := chunk_eq m X W hX hW c
  unfold mx mxNext mxFirst
  rw [pay38_le, pay38_le, pay38_le, pay32_le]
  simp only [hc]
  constructor
  · rintro ⟨⟨⟨⟨h0, ha⟩, hb⟩, hd⟩, he⟩
    refine ⟨h0, fun j => ?_⟩
    fin_cases j
    exacts [ha, hb, hd, he]
  · rintro ⟨h0, h⟩
    exact ⟨⟨⟨⟨h0, h 0⟩, h 1⟩, h 2⟩, h 3⟩

/-- The greatest of the devices' maxima, on every device, is the greatest absolute value of the clipped product. -/
theorem top4_eq (c : Dev nD) : top4 (amC m c) = amax X W := by
  refine eq_of_forall_ge_iff fun z => ?_
  rw [top4_le, amax_le]
  have hm (d : Fin 4) (l : Fin 128) :
      amC m c (ix3 d 0 l) = mx m ⟨(c.val + (4 - d.val)) % 4, Nat.mod_lt _ (by decide)⟩ := rfl
  simp only [hm, mx_le m X W hX hW]
  constructor
  · intro h r k
    have hc : c.val < 4 := c.isLt
    have h' := (h ⟨(c.val + (4 - r.val / 1024)) % 4, Nat.mod_lt _ (by decide)⟩ 0).2 ⟨r.val % 1024 / 256, by omega⟩ ⟨r.val % 256, by omega⟩ k
    refine le_of_eq_of_le (congrArg (fun r => relu X W r k) (Fin.ext ?_)) h'
    show r.val = (c.val + (4 - (c.val + (4 - r.val / 1024)) % 4)) % 4 * 1024 + (r.val % 1024 / 256 * 256 + r.val % 256)
    omega
  · intro h d l
    exact ⟨(relu_nonneg X W 0 0).trans (h 0 0), fun j r k => h _ _⟩

/-- Each device's result is its rows of the problem's result. -/
theorem outC_eq (c : Dev nD) : outC m c = Layout.block ⟨2, ![1024, 2048]⟩ ⟨2, ![4096, 2048]⟩ 0 4 c (result X W) tiles_rows := by
  funext i
  refine (pay1_at _ _ i).trans ?_
  rw [top4_eq m X W hX hW]
  refine (congrArg (· * Ideal.div 1 (scale (amax X W)) * scale (amax X W)) (yC_eq m X W hX hW c i)).trans ?_
  exact quant_eq _ _ (relu_nonneg X W _ _) (relu_le_amax X W _ _)

end

end Cert.KernelIdealProof

end
-- ==== Proof.ReferenceIdeal.Value.lean ====
/-
# What the reference computes

The reference's host operations and its dequantising call, read element by element: the problem's result.
-/
module

public import proofs.«01_k».proof.Proof.Quantiser
public import proofs.«01_k».proof.Proof.Gen.ReferenceIdeal.Value
public import Idealize.ShloMosaic.Lib.StableHlo.ReadAt
public import Idealize.ShloMosaic.Lib.Pipeline.ValueKit

@[expose] public section

noncomputable section

namespace Cert.ReferenceIdealProof

open Cert.ReferenceIdeal Cert.ReferenceIdeal.Gen Idealize.ShloMosaic Idealize.ShloMosaic.TcCoe Idealize.SL.Sem
open Cert.Quantiser

variable (m : (ℓ : Loc nD τ sig) → Buf (Elt Ideal) ℓ) (ρ : Dev nD → PrngReg)

/-- The reference's two arguments. -/
abbrev X : S4096x4096.Idx → EReal := m (((0 : Dev nD) : Thread nD τ).loc main_arg0)
abbrev W : S4096x2048.Idx → EReal := m (((0 : Dev nD) : Thread nD τ).loc main_arg1)

set_option maxRecDepth 20000 in
/-- The scale that the call reads. -/
theorem V_scale (j : S1x1.Idx) : V m 0 main_v10 j = scale (amax (X m) (W m)) := by
  unfold V hostOps0 hostOps0_1 hostOps0_2
  after_reads_at
  rw [word_bot, word_448]
  rfl

set_option maxRecDepth 20000 in
/-- The codes that the call reads. -/
theorem V_codes (j : S4096x2048.Idx) :
    V m 0 main_v9 j = min ((448 : ℝ) : EReal) (max ((-448 : ℝ) : EReal)
      (Ideal.div (relu (X m) (W m) (j 0) (j 1)) (scale (amax (X m) (W m))))) := by
  unfold V hostOps0 hostOps0_1 hostOps0_2
  after_reads_at
  rw [word_bot, word_448, show id (constant (F := Ideal) S_ .f32 0x43E00000#32) ix0 = ((448 : ℝ) : EReal) from word_448,
    show id (constant (F := Ideal) S_ .f32 0xC3E00000#32) ix0 = ((-448 : ℝ) : EReal) from word_neg448]
  rfl

/-- The array after the call. -/
theorem final_eq : (dats m 0 (0 : Dev nD)).arrAt 2 cfg0.N = result (X m) (W m) := by
  refine (dats m 0 (0 : Dev nD)).arrAt_eq_of_after_last 2 t0_0 (by decide +kernel) _ fun j => ?_
  blk_simp
  rw [after0_2]
  unfold out0_2
  rw [Value.canon2_eq]
  have h0 : View.ld (iblk m 0 0 t0_0) r0_0 (Value.ix2_0 j) = V m 0 main_v9 j := by
    show V m 0 main_v9 _ = _
    refine congrArg (V m 0 main_v9) (ext2 _ _ ?_ ?_)
    · show 0 * 4096 + 1 * (0 + 1 * (j 0).val) = (j 0).val; omega
    · show 0 * 2048 + 1 * (0 + 1 * (j 1).val) = (j 1).val; omega
  have h1 : View.ld (iblk m 0 1 t0_0) r0_1 (Value.ix2_1 j) = V m 0 main_v10 (ix2 0 0) := by
    show V m 0 main_v10 _ = _
    exact congrArg (V m 0 main_v10) (ext2 _ _ rfl rfl)
  show FloatOps.mulf (F := Ideal) (φ := .f32) (View.ld (iblk m 0 0 t0_0) r0_0 (Value.ix2_0 j)) (View.ld (iblk m 0 1 t0_0) r0_1 (Value.ix2_1 j)) = _
  rw [h0, h1, V_scale, V_codes]
  rfl

/-- The reference runs to the end with the problem's result in its result array and its arguments unchanged. -/
theorem run_value : θ_run defs (onTc (τ := τ) (main (F := Ideal))) ⟨m, fun _ => 0, ρ⟩ (fun r =>
    r.2.mem (((0 : Dev nD) : Thread nD τ).loc main_v11) = result (X m) (W m)
    ∧ r.2.mem (((0 : Dev nD) : Thread nD τ).loc main_arg0) = m (((0 : Dev nD) : Thread nD τ).loc main_arg0)
    ∧ r.2.mem (((0 : Dev nD) : Thread nD τ).loc main_arg1) = m (((0 : Dev nD) : Thread nD τ).loc main_arg1)) :=
  (θ_run defs _ _).mono (fun _ h => ⟨(h 0).1.trans (final_eq m), (h 0).2⟩) (Value.run_blocks m ρ)

end Cert.ReferenceIdealProof

end
-- ==== Proof.lean ====
/-
# The claim

Each program's run gives its frame, the programs' idealization rewrites nothing, and the kernel's result on every
device is its block of rows of what the reference computes.
-/
module

public import proofs.«01_k».proof.Defs
public import proofs.«01_k».proof.Proof.Kernel.Same
public import proofs.«01_k».proof.Proof.KernelIdeal.Launch
public import proofs.«01_k».proof.Proof.KernelIdeal.Value
public import proofs.«01_k».proof.Proof.ReferenceIdeal.Value
public import proofs.«01_k».proof.Proof.Gen.ReferenceIdeal
public import proofs.«01_k».proof.Proof.Gen.ReferenceIdeal.Frame
public import proofs.«01_k».proof.Proof.Gen.ReferenceIdeal.Value
public import Idealize.ShloMosaic.Adequacy
public import Idealize.ShloMosaic.Init

@[expose] public section

noncomputable section

namespace Cert.Proof

open Idealize.ShloMosaic Idealize.SL.Sem

/-- The kernel over bits runs to the end on every device, leaves its arguments alone and returns every semaphore to zero. -/
theorem kernel_frame : quiescent_Kernel (hKernel := Cert.Kernel.Gen.facts) := fun m ρ _ => Cert.KernelProof.frame (F := Bits) m ρ

/-- So does the kernel over the extended reals. -/
theorem ideal_frame : quiescent_KernelIdeal (hKernelIdeal := Cert.KernelIdeal.Gen.facts) := fun m ρ _ =>
  (θ_run (nD := Cert.KernelIdeal.nD) (τ := Cert.KernelIdeal.τ) _ _ _).mono
    (fun _ h => ⟨fun c => (h.1 c).2, h.2⟩) (Cert.KernelIdealProof.run_main (F := Ideal) m ρ)

/-- Over the extended reals, when the devices hold the column blocks of the reference's `x` and all of its `w_mat`, every
    device ends with its block of rows of the reference's result. -/
theorem value : algebraic_KernelIdeal_ReferenceIdeal (hKernelIdeal := Cert.KernelIdeal.Gen.facts) (hReferenceIdeal := Cert.ReferenceIdeal.Gen.facts) :=
  fun m ρ m' ρ' _ hag => ⟨Cert.Quantiser.result (Cert.ReferenceIdealProof.X m') (Cert.ReferenceIdealProof.W m'),
    (θ_run (nD := Cert.KernelIdeal.nD) (τ := Cert.KernelIdeal.τ) _ _ _).mono
      (fun _ h c => ⟨(h.1 c).1.trans (Cert.KernelIdealProof.outC_eq m _ _ (fun c => (hag c).1) (fun c => (hag c).2) c), (h.1 c).2⟩)
      (Cert.KernelIdealProof.run_main (F := Ideal) m ρ),
    Cert.ReferenceIdealProof.run_value m' ρ'⟩

/-- Everything the certificate claims. -/
theorem claim : Cert.Claim := ⟨Cert.Kernel.Gen.facts, Cert.KernelIdeal.Gen.facts, Cert.ReferenceIdeal.Gen.facts,
  kernel_frame, ideal_frame, fun m ρ _ => Cert.ReferenceIdeal.Gen.frame m ρ, trivial, value⟩

end Cert.Proof

end
